-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_untied [hPre_finite_untied : Cert.Pre_finite_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_untied [hPre_finite_untied : Cert.Pre_finite_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_untied [hKernelIdeal : Cert.KernelIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_untied [hReferenceIdeal : Cert.ReferenceIdeal.Facts] [hPre_finite_untied : Cert.Pre_finite_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_untied [hKernelIdeal : Cert.KernelIdeal.Facts] [hReferenceIdeal : Cert.ReferenceIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_untied : Cert.Pre_finite_untied.Facts),
    quiescent_Kernel (hKernel := hKernel)
    ∧ quiescent_KernelIdeal (hKernelIdeal := hKernelIdeal)
    ∧ quiescent_KernelIdeal_pre_finite_untied (hKernelIdeal := hKernelIdeal) (hPre_finite_untied := hPre_finite_untied)
    ∧ quiescent_ReferenceIdeal (hReferenceIdeal := hReferenceIdeal)
    ∧ quiescent_ReferenceIdeal_pre_finite_untied (hReferenceIdeal := hReferenceIdeal) (hPre_finite_untied := hPre_finite_untied)
    ∧ preserves_Kernel_KernelIdeal
    ∧ algebraic_KernelIdeal_ReferenceIdeal_pre_finite_untied (hKernelIdeal := hKernelIdeal) (hReferenceIdeal := hReferenceIdeal) (hPre_finite_untied := hPre_finite_untied)
-- ==== Pre_finite_untied.lean ====
abbrev S4x512x7 : Shape := ⟨3, ![4, 512, 7]⟩
abbrev S4x512x4 : Shape := ⟨3, ![4, 512, 4]⟩
abbrev S4x144x7 : Shape := ⟨3, ![4, 144, 7]⟩
abbrev S4x144x4 : Shape := ⟨3, ![4, 144, 4]⟩
abbrev S1x128 : Shape := ⟨2, ![1, 128]⟩
abbrev S128x128 : Shape := ⟨2, ![128, 128]⟩
abbrev S128x8 : Shape := ⟨2, ![128, 8]⟩
abbrev S8x128x256 : Shape := ⟨3, ![8, 128, 256]⟩
abbrev S8x256x128 : Shape := ⟨3, ![8, 256, 128]⟩
abbrev S128x96 : Shape := ⟨2, ![128, 96]⟩
abbrev S_ : Shape := ⟨0, ![]⟩
abbrev S4x7 : Shape := ⟨2, ![4, 7]⟩
abbrev S4x1x7 : Shape := ⟨3, ![4, 1, 7]⟩
abbrev S28x512 : Shape := ⟨2, ![28, 512]⟩
abbrev S28x512x1 : Shape := ⟨3, ![28, 512, 1]⟩
abbrev S128 : Shape := ⟨1, ![128]⟩
abbrev S1x1x128 : Shape := ⟨3, ![1, 1, 128]⟩
abbrev S28x512x128 : Shape := ⟨3, ![28, 512, 128]⟩
abbrev S28x512x512 : Shape := ⟨3, ![28, 512, 512]⟩
abbrev S512x512 : Shape := ⟨2, ![512, 512]⟩
abbrev S1x512x512 : Shape := ⟨3, ![1, 512, 512]⟩
abbrev S14336x128 : Shape := ⟨2, ![14336, 128]⟩
abbrev S14336x8 : Shape := ⟨2, ![14336, 8]⟩
abbrev S14336 : Shape := ⟨1, ![14336]⟩
abbrev S14336x1 : Shape := ⟨2, ![14336, 1]⟩
abbrev S14336x3 : Shape := ⟨2, ![14336, 3]⟩
abbrev S4x7x512x3 : Shape := ⟨4, ![4, 7, 512, 3]⟩
abbrev S4x2x1x3 : Shape := ⟨4, ![4, 2, 1, 3]⟩
abbrev S4x2x3 : Shape := ⟨3, ![4, 2, 3]⟩
abbrev S4x2x1 : Shape := ⟨3, ![4, 2, 1]⟩
abbrev S4x2 : Shape := ⟨2, ![4, 2]⟩

class Facts : Prop where
  bcast_S_S4x512x7 : S_.BroadcastsInDim S4x512x7 (![] : Fin 0 → Fin S4x512x7.rank)
  reducesTo_S4x512x7_S_d0_1_2 : S4x512x7.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  reducesTo_S4x512x7_S4x7_d1 : S4x512x7.ReducesTo [1] S4x7
  bcast_S4x7_S4x1x7_0_2 : S4x7.BroadcastsInDim S4x1x7 (![0, 2] : Fin 2 → Fin S4x1x7.rank)
  bcast_S_S4x1x7 : S_.BroadcastsInDim S4x1x7 (![] : Fin 0 → Fin S4x1x7.rank)
  bcast_S4x1x7_S4x512x7_0_1_2 : S4x1x7.BroadcastsInDim S4x512x7 (![0, 1, 2] : Fin 3 → Fin S4x512x7.rank)
  shapeCasts_S4x512x7_S28x512 : S4x512x7.ShapeCasts S28x512
  bcast_S28x512_S28x512x1_0_1 : S28x512.BroadcastsInDim S28x512x1 (![0, 1] : Fin 2 → Fin S28x512x1.rank)
  shapeCasts_S1x128_S128 : S1x128.ShapeCasts S128
  bcast_S128_S1x1x128_2 : S128.BroadcastsInDim S1x1x128 (![2] : Fin 1 → Fin S1x1x128.rank)
  bcast_S28x512x1_S28x512x128_0_1_2 : S28x512x1.BroadcastsInDim S28x512x128 (![0, 1, 2] : Fin 3 → Fin S28x512x128.rank)
  bcast_S1x1x128_S28x512x128_0_1_2 : S1x1x128.BroadcastsInDim S28x512x128 (![0, 1, 2] : Fin 3 → Fin S28x512x128.rank)
  bcast_S_S28x512x512 : S_.BroadcastsInDim S28x512x512 (![] : Fin 0 → Fin S28x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S28x512x512_0_1_2 : S1x512x512.BroadcastsInDim S28x512x512 (![0, 1, 2] : Fin 3 → Fin S28x512x512.rank)
  reducesTo_S28x512x512_S28x512_d2 : S28x512x512.ReducesTo [2] S28x512
  bcast_S_S28x512 : S_.BroadcastsInDim S28x512 (![] : Fin 0 → Fin S28x512.rank)
  bcast_S28x512x1_S28x512x512_0_1_2 : S28x512x1.BroadcastsInDim S28x512x512 (![0, 1, 2] : Fin 3 → Fin S28x512x512.rank)
  shapeCasts_S28x512x128_S14336x128 : S28x512x128.ShapeCasts S14336x128
  reducesTo_S14336x8_S14336_d1 : S14336x8.ReducesTo [1] S14336
  bcast_S_S14336 : S_.BroadcastsInDim S14336 (![] : Fin 0 → Fin S14336.rank)
  bcast_S14336_S14336x1_0 : S14336.BroadcastsInDim S14336x1 (![0] : Fin 1 → Fin S14336x1.rank)
  bcast_S14336x1_S14336x8_0_1 : S14336x1.BroadcastsInDim S14336x8 (![0, 1] : Fin 2 → Fin S14336x8.rank)
  sliceFits_S14336x8_S14336x3 : S14336x8.Slices (fun _ => 0) S14336x3
  shapeCasts_S14336x3_S4x7x512x3 : S14336x3.ShapeCasts S4x7x512x3
  slices_S4x7x512x3_S4x2x1x3_0_5_511_0 : S4x7x512x3.Slices ![0, 5, 511, 0] S4x2x1x3
  shapeCasts_S4x2x1x3_S4x2x3 : S4x2x1x3.ShapeCasts S4x2x3
  slices_S4x2x3_S4x2x1_0_0_0 : S4x2x3.Slices ![0, 0, 0] S4x2x1
  shapeCasts_S4x2x1_S4x2 : S4x2x1.ShapeCasts S4x2
  slices_S4x2x3_S4x2x1_0_0_1 : S4x2x3.Slices ![0, 0, 1] S4x2x1
  slices_S4x2x3_S4x2x1_0_0_2 : S4x2x3.Slices ![0, 0, 2] S4x2x1
  bcast_S_S4x2 : S_.BroadcastsInDim S4x2 (![] : Fin 0 → Fin S4x2.rank)
  dot_S28x512x128_S128x128_S28x512x128_2_0_01_1_n_n_wf : DotDims.WF S28x512x128 S128x128 S28x512x128 [2] [0] [0, 1] [1] [] []
  dot_S28x512x128_S28x512x128_S28x512x512_2_2_1_1_0_0_wf : DotDims.WF S28x512x128 S28x512x128 S28x512x512 [2] [2] [1] [1] [0] [0]
  dot_S28x512x512_S28x512x128_S28x512x128_2_1_1_2_0_0_wf : DotDims.WF S28x512x512 S28x512x128 S28x512x128 [2] [1] [1] [2] [0] [0]
  dot_S14336x128_S128x8_S14336x8_1_0_0_1_n_n_wf : DotDims.WF S14336x128 S128x8 S14336x8 [1] [0] [0] [1] [] []

variable [Facts]

def dot_S28x512x128_S128x128_S28x512x128_2_0_01_1_n_n : DotDims S28x512x128 S128x128 S28x512x128 where
  lhsContracting := [2]
  rhsContracting := [0]
  lhsNonContracting := [0, 1]
  rhsNonContracting := [1]
  lhsBatch := []
  rhsBatch := []
  wf := dot_S28x512x128_S128x128_S28x512x128_2_0_01_1_n_n_wf
def dot_S28x512x128_S28x512x128_S28x512x512_2_2_1_1_0_0 : DotDims S28x512x128 S28x512x128 S28x512x512 where
  lhsContracting := [2]
  rhsContracting := [2]
  lhsNonContracting := [1]
  rhsNonContracting := [1]
  lhsBatch := [0]
  rhsBatch := [0]
  wf := dot_S28x512x128_S28x512x128_S28x512x512_2_2_1_1_0_0_wf
def dot_S28x512x512_S28x512x128_S28x512x128_2_1_1_2_0_0 : DotDims S28x512x512 S28x512x128 S28x512x128 where
  lhsContracting := [2]
  rhsContracting := [1]
  lhsNonContracting := [1]
  rhsNonContracting := [2]
  lhsBatch := [0]
  rhsBatch := [0]
  wf := dot_S28x512x512_S28x512x128_S28x512x128_2_1_1_2_0_0_wf
def dot_S14336x128_S128x8_S14336x8_1_0_0_1_n_n : DotDims S14336x128 S128x8 S14336x8 where
  lhsContracting := [1]
  rhsContracting := [0]
  lhsNonContracting := [0]
  rhsNonContracting := [1]
  lhsBatch := []
  rhsBatch := []
  wf := dot_S14336x128_S128x8_S14336x8_1_0_0_1_n_n_wf
def fn_where {F : FTy → Type} [FloatOps F] (arg0 : IVec S_ 1) (arg1 : FVec F S4x1x7 .f32) (arg2 : FVec F S_ .f32) : FVec F S4x1x7 .f32 :=
  let v0 : FVec F S_ .f32 := id arg2
  let v1 : FVec F S4x1x7 .f32 := broadcastInDim S4x1x7 ![] bcast_S_S4x1x7 v0
  let v2 : FVec F S4x1x7 .f32 := (fun p a b => select (broadcastInDim S4x1x7 ![] bcast_S_S4x1x7 p) a b) arg0 arg1 v1
  v2

def fn_var {F : FTy → Type} [FloatOps F] (arg0 : FVec F S4x512x7 .f32) (arg1 : IVec S_ 32) : FVec F S4x1x7 .f32 :=
  let cst : FVec F S_ .f32 := constant S_ .f32 0x00000000#32
  let v0 : FVec F S4x7 .f32 := (fun x v => Host.reduceAdd x v reducesTo_S4x512x7_S4x7_d1 h_S_) arg0 cst
  let v1 : FVec F S4x1x7 .f32 := broadcastInDim S4x1x7 ![0, 2] bcast_S4x7_S4x1x7_0_2 v0
  let cst_0 : FVec F S_ .f32 := constant S_ .f32 0x44000000#32
  let v2 : FVec F S4x1x7 .f32 := broadcastInDim S4x1x7 ![] bcast_S_S4x1x7 cst_0
  let v3 : FVec F S4x1x7 .f32 := Host.divf v1 v2
  let v4 : FVec F S4x512x7 .f32 := broadcastInDim S4x512x7 ![0, 1, 2] bcast_S4x1x7_S4x512x7_0_1_2 v3
  let v5 : FVec F S4x512x7 .f32 := subf arg0 v4
  let v6 : FVec F S4x512x7 .f32 := mulf v5 v5
  let v7 : FVec F S_ .f32 := sitofp .f32 arg1
  let cst_1 : FVec F S_ .f32 := constant S_ .f32 0x44000000#32
  let v8 : FVec F S_ .f32 := subf cst_1 v7
  let cst_2 : FVec F S_ .f32 := constant S_ .f32 0x00000000#32
  let v9 : FVec F S4x7 .f32 := (fun x v => Host.reduceAdd x v reducesTo_S4x512x7_S4x7_d1 h_S_) v6 cst_2
  let v10 : FVec F S4x1x7 .f32 := broadcastInDim S4x1x7 ![0, 2] bcast_S4x7_S4x1x7_0_2 v9
  let v11 : FVec F S4x1x7 .f32 := broadcastInDim S4x1x7 ![] bcast_S_S4x1x7 v8
  let v12 : FVec F S4x1x7 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S4x1x7 .f32 := fn_where (F := F) v13 v12 cst_4
  v14

def fn_tril {F : FTy → Type} [FloatOps F] (arg0 : IVec S512x512 1) : IVec S512x512 1 :=
  let v0 : IVec S512x512 32 := iotaInDim S512x512 32 0
  let c : IVec S_ 32 := constantI S_ 32 0#32
  let v1 : IVec S512x512 32 := broadcastInDim S512x512 ![] bcast_S_S512x512 c
  let v2 : IVec S512x512 32 := addi v0 v1
  let v3 : IVec S512x512 32 := iotaInDim S512x512 32 1
  let v4 : IVec S512x512 1 := cmpi .sge v2 v3
  let c_0 : IVec S_ 1 := constantI S_ 1 0#1
  let v5 : IVec S512x512 1 := broadcastInDim S512x512 ![] bcast_S_S512x512 c_0
  let v6 : IVec S512x512 1 := select v4 arg0 v5
  v6

def fn_where_0 {F : FTy → Type} [FloatOps F] (arg0 : IVec S1x512x512 1) (arg1 : FVec F S28x512x512 .f32) (arg2 : FVec F S_ .f32) : FVec F S28x512x512 .f32 :=
  let v0 : IVec S28x512x512 1 := broadcastInDim S28x512x512 ![0, 1, 2] bcast_S1x512x512_S28x512x512_0_1_2 arg0
  let v1 : FVec F S28x512x512 .f32 := broadcastInDim S28x512x512 ![] bcast_S_S28x512x512 arg2
  let v2 : FVec F S28x512x512 .f32 := select v0 arg1 v1
  v2

def fn_part5 {F : FTy → Type} [FloatOps F] (main_v28 : IVec S_ 1) (main_v89 : FVec F S4x2x3 .f32) (main_v91 : FVec F S4x2 .f32) : IVec S4x2 1 :=
  let main_v92 : FVec F S4x2x1 .f32 := (extractStridedSlice S4x2x1 ![0, 0, 1] · slices_S4x2x3_S4x2x1_0_0_1) main_v89
  let main_v93 : FVec F S4x2 .f32 := shapeCast S4x2 main_v92 shapeCasts_S4x2x1_S4x2
  let main_v94 : IVec S4x2 1 := cmpf .ogt main_v91 main_v93
  let main_v95 : FVec F S4x2x1 .f32 := (extractStridedSlice S4x2x1 ![0, 0, 1] · slices_S4x2x3_S4x2x1_0_0_1) main_v89
  let main_v96 : FVec F S4x2 .f32 := shapeCast S4x2 main_v95 shapeCasts_S4x2x1_S4x2
  let main_v97 : FVec F S4x2x1 .f32 := (extractStridedSlice S4x2x1 ![0, 0, 2] · slices_S4x2x3_S4x2x1_0_0_2) main_v89
  let main_v98 : FVec F S4x2 .f32 := shapeCast S4x2 main_v97 shapeCasts_S4x2x1_S4x2
  let main_v99 : IVec S4x2 1 := cmpf .ogt main_v96 main_v98
  let main_v100 : IVec S4x2 1 := andi main_v94 main_v99
  let main_v101 : IVec S4x2 1 := broadcastInDim S4x2 ![] bcast_S_S4x2 main_v28
  let main_v102 : IVec S4x2 1 := andi main_v101 main_v100
  main_v102

def fn_part4 {F : FTy → Type} [FloatOps F] (main_arg9 : FVec F S128x8 .f32) (main_v28 : IVec S_ 1) (main_v47 : FVec F S28x512x128 .f32) (main_v72 : FVec F S28x512x128 .f32) : IVec S4x2 1 :=
  let main_v73 : FVec F S28x512x128 .f32 := addf main_v47 main_v72
  let main_v74 : FVec F S14336x128 .f32 := shapeCast S14336x128 main_v73 shapeCasts_S28x512x128_S14336x128
  let main_v75 : FVec F S14336x8 .f32 := (fun l r => Host.dotGeneral dot_S14336x128_S128x8_S14336x8_1_0_0_1_n_n none l r) main_v74 main_arg9
  let main_cst_21 : FVec F S_ .f32 := constant S_ .f32 0xFF800000#32
  let main_v76 : FVec F S14336 .f32 := (fun x v => Host.reduce FloatOps.maximumf x v reducesTo_S14336x8_S14336_d1 h_S_) main_v75 main_cst_21
  let main_cst_22 : FVec F S_ .f32 := constant S_ .f32 0xFF800000#32
  let main_v77 : FVec F S14336 .f32 := broadcastInDim S14336 ![] bcast_S_S14336 main_cst_22
  let main_v78 : FVec F S14336 .f32 := maximumf main_v77 main_v76
  let main_v79 : FVec F S14336x1 .f32 := broadcastInDim S14336x1 ![0] bcast_S14336_S14336x1_0 main_v78
  let main_v80 : FVec F S14336x8 .f32 := broadcastInDim S14336x8 ![0, 1] bcast_S14336x1_S14336x8_0_1 main_v79
  let main_v81 : FVec F S14336x8 .f32 := subf main_v75 main_v80
  let main_v82 : FVec F S14336x8 .f32 := Host.exp main_v81
  let main_cst_23 : FVec F S_ .f32 := constant S_ .f32 0x00000000#32
  let main_v83 : FVec F S14336 .f32 := (fun x v => Host.reduceAdd x v reducesTo_S14336x8_S14336_d1 h_S_) main_v82 main_cst_23
  let main_v84 : FVec F S14336x1 .f32 := broadcastInDim S14336x1 ![0] bcast_S14336_S14336x1_0 main_v83
  let main_v85 : FVec F S14336x8 .f32 := broadcastInDim S14336x8 ![0, 1] bcast_S14336x1_S14336x8_0_1 main_v84
  let main_v86 : FVec F S14336x8 .f32 := Host.divf main_v82 main_v85
  let main_values : FVec F S14336x3 .f32 := (fun x => (Host.topK S14336x3 1 (FloatOps.cmpfTotal .gt) x sliceFits_S14336x8_S14336x3).1) main_v86
  let main_indices : IVec S14336x3 32 := (fun x => (Host.topK S14336x3 1 (FloatOps.cmpfTotal .gt) x sliceFits_S14336x8_S14336x3).2) main_v86
  let main_v87 : FVec F S4x7x512x3 .f32 := shapeCast S4x7x512x3 main_values shapeCasts_S14336x3_S4x7x512x3
  let main_v88 : FVec F S4x2x1x3 .f32 := (extractStridedSlice S4x2x1x3 ![0, 5, 511, 0] · slices_S4x7x512x3_S4x2x1x3_0_5_511_0) main_v87
  let main_v89 : FVec F S4x2x3 .f32 := shapeCast S4x2x3 main_v88 shapeCasts_S4x2x1x3_S4x2x3
  let main_v90 : FVec F S4x2x1 .f32 := (extractStridedSlice S4x2x1 ![0, 0, 0] · slices_S4x2x3_S4x2x1_0_0_0) main_v89
  let main_v91 : FVec F S4x2 .f32 := shapeCast S4x2 main_v90 shapeCasts_S4x2x1_S4x2
  fn_part5 (F := F) main_v28 main_v89 main_v91

def fn_part3 {F : FTy → Type} [FloatOps F] (main_arg8 : FVec F S128x128 .f32) (main_arg9 : FVec F S128x8 .f32) (main_v28 : IVec S_ 1) (main_v47 : FVec F S28x512x128 .f32) (main_v50 : FVec F S28x512x128 .f32) (main_v52 : FVec F S_ .f32) (main_v53 : FVec F S28x512x512 .f32) : IVec S4x2 1 :=
  let main_v54 : FVec F S28x512x512 .f32 := broadcastInDim S28x512x512 ![] bcast_S_S28x512x512 main_v52
  let main_v55 : FVec F S28x512x512 .f32 := mulf main_v53 main_v54
  let main_c_16 : IVec S_ 1 := constantI S_ 1 1#1
  let main_v56 : IVec S512x512 1 := broadcastInDim S512x512 ![] bcast_S_S512x512 main_c_16
  let main_v57 : IVec S512x512 1 := fn_tril (F := F) main_v56
  let main_v58 : IVec S1x512x512 1 := broadcastInDim S1x512x512 ![1, 2] bcast_S512x512_S1x512x512_1_2 main_v57
  let main_cst_17 : FVec F S_ .f32 := constant S_ .f32 0xCE6E6B28#32
  let main_v59 : FVec F S28x512x512 .f32 := fn_where_0 (F := F) main_v58 main_v55 main_cst_17
  let main_cst_18 : FVec F S_ .f32 := constant S_ .f32 0xFF800000#32
  let main_v60 : FVec F S28x512 .f32 := (fun x v => Host.reduce FloatOps.maximumf x v reducesTo_S28x512x512_S28x512_d2 h_S_) main_v59 main_cst_18
  let main_cst_19 : FVec F S_ .f32 := constant S_ .f32 0xFF800000#32
  let main_v61 : FVec F S28x512 .f32 := broadcastInDim S28x512 ![] bcast_S_S28x512 main_cst_19
  let main_v62 : FVec F S28x512 .f32 := maximumf main_v61 main_v60
  let main_v63 : FVec F S28x512x1 .f32 := broadcastInDim S28x512x1 ![0, 1] bcast_S28x512_S28x512x1_0_1 main_v62
  let main_v64 : FVec F S28x512x512 .f32 := broadcastInDim S28x512x512 ![0, 1, 2] bcast_S28x512x1_S28x512x512_0_1_2 main_v63
  let main_v65 : FVec F S28x512x512 .f32 := subf main_v59 main_v64
  let main_v66 : FVec F S28x512x512 .f32 := Host.exp main_v65
  let main_cst_20 : FVec F S_ .f32 := constant S_ .f32 0x00000000#32
  let main_v67 : FVec F S28x512 .f32 := (fun x v => Host.reduceAdd x v reducesTo_S28x512x512_S28x512_d2 h_S_) main_v66 main_cst_20
  let main_v68 : FVec F S28x512x1 .f32 := broadcastInDim S28x512x1 ![0, 1] bcast_S28x512_S28x512x1_0_1 main_v67
  let main_v69 : FVec F S28x512x512 .f32 := broadcastInDim S28x512x512 ![0, 1, 2] bcast_S28x512x1_S28x512x512_0_1_2 main_v68
  let main_v70 : FVec F S28x512x512 .f32 := Host.divf main_v66 main_v69
  let main_v71 : FVec F S28x512x128 .f32 := (fun l r => Host.dotGeneral dot_S28x512x512_S28x512x128_S28x512x128_2_1_1_2_0_0 none l r) main_v70 main_v50
  let main_v72 : FVec F S28x512x128 .f32 := (fun l r => Host.dotGeneral dot_S28x512x128_S128x128_S28x512x128_2_0_01_1_n_n none l r) main_v71 main_arg8
  fn_part4 (F := F) main_arg9 main_v28 main_v47 main_v72

def fn_part2 {F : FTy → Type} [FloatOps F] (main_arg0 : FVec F S4x512x7 .f32) (main_arg4 : FVec F S1x128 .f32) (main_arg5 : FVec F S128x128 .f32) (main_arg6 : FVec F S128x128 .f32) (main_arg7 : FVec F S128x128 .f32) (main_arg8 : FVec F S128x128 .f32) (main_arg9 : FVec F S128x8 .f32) (main_v28 : IVec S_ 1) (main_v33 : FVec F S4x512x7 .f32) : IVec S4x2 1 :=
  let main_v34 : FVec F S4x512x7 .f32 := subf main_arg0 main_v33
  let main_c_12 : IVec S_ 32 := constantI S_ 32 0#32
  let main_v35 : FVec F S4x1x7 .f32 := fn_var (F := F) main_v34 main_c_12
  let main_cst_13 : FVec F S_ .f32 := constant S_ .f32 0x3727C5AC#32
  let main_v36 : FVec F S4x1x7 .f32 := broadcastInDim S4x1x7 ![] bcast_S_S4x1x7 main_cst_13
  let main_v37 : FVec F S4x1x7 .f32 := addf main_v35 main_v36
  let main_v38 : FVec F S4x1x7 .f32 := Host.sqrt main_v37
  let main_v39 : FVec F S4x512x7 .f32 := broadcastInDim S4x512x7 ![0, 1, 2] bcast_S4x1x7_S4x512x7_0_1_2 main_v38
  let main_v40 : FVec F S4x512x7 .f32 := Host.divf main_v34 main_v39
  let main_v41 : FVec F S28x512 .f32 := shapeCast S28x512 main_v40 shapeCasts_S4x512x7_S28x512
  let main_v42 : FVec F S28x512x1 .f32 := broadcastInDim S28x512x1 ![0, 1] bcast_S28x512_S28x512x1_0_1 main_v41
  let main_v43 : FVec F S128 .f32 := shapeCast S128 main_arg4 shapeCasts_S1x128_S128
  let main_v44 : FVec F S1x1x128 .f32 := broadcastInDim S1x1x128 ![2] bcast_S128_S1x1x128_2 main_v43
  let main_v45 : FVec F S28x512x128 .f32 := broadcastInDim S28x512x128 ![0, 1, 2] bcast_S28x512x1_S28x512x128_0_1_2 main_v42
  let main_v46 : FVec F S28x512x128 .f32 := broadcastInDim S28x512x128 ![0, 1, 2] bcast_S1x1x128_S28x512x128_0_1_2 main_v44
  let main_v47 : FVec F S28x512x128 .f32 := mulf main_v45 main_v46
  let main_v48 : FVec F S28x512x128 .f32 := (fun l r => Host.dotGeneral dot_S28x512x128_S128x128_S28x512x128_2_0_01_1_n_n none l r) main_v47 main_arg5
  let main_v49 : FVec F S28x512x128 .f32 := (fun l r => Host.dotGeneral dot_S28x512x128_S128x128_S28x512x128_2_0_01_1_n_n none l r) main_v47 main_arg6
  let main_v50 : FVec F S28x512x128 .f32 := (fun l r => Host.dotGeneral dot_S28x512x128_S128x128_S28x512x128_2_0_01_1_n_n none l r) main_v47 main_arg7
  let main_cst_14 : FVec F S_ .f32 := constant S_ .f32 0x43000000#32
  let main_v51 : FVec F S_ .f32 := Host.sqrt main_cst_14
  let main_cst_15 : FVec F S_ .f32 := constant S_ .f32 0x3F800000#32
  let main_v52 : FVec F S_ .f32 := Host.divf main_cst_15 main_v51
  let main_v53 : FVec F S28x512x512 .f32 := (fun l r => Host.dotGeneral dot_S28x512x128_S28x512x128_S28x512x512_2_2_1_1_0_0 none l r) main_v48 main_v49
  fn_part3 (F := F) main_arg8 main_arg9 main_v28 main_v47 main_v50 main_v52 main_v53

def fn_part1 {F : FTy → Type} [FloatOps F] (main_arg0 : FVec F S4x512x7 .f32) (main_arg4 : FVec F S1x128 .f32) (main_arg5 : FVec F S128x128 .f32) (main_arg6 : FVec F S128x128 .f32) (main_arg7 : FVec F S128x128 .f32) (main_arg8 : FVec F S128x128 .f32) (main_arg9 : FVec F S128x8 .f32) (main_v13 : IVec S_ 1) (main_v16 : IVec S128x128 1) : IVec S4x2 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_cst_10 : FVec F S_ .f32 := constant S_ .f32 0x00000000#32
  let main_v29 : FVec F S4x7 .f32 := (fun x v => Host.reduceAdd x v reducesTo_S4x512x7_S4x7_d1 h_S_) main_arg0 main_cst_10
  let main_v30 : FVec F S4x1x7 .f32 := broadcastInDim S4x1x7 ![0, 2] bcast_S4x7_S4x1x7_0_2 main_v29
  let main_cst_11 : FVec F S_ .f32 := constant S_ .f32 0x44000000#32
  let main_v31 : FVec F S4x1x7 .f32 := broadcastInDim S4x1x7 ![] bcast_S_S4x1x7 main_cst_11
  let main_v32 : FVec F S4x1x7 .f32 := Host.divf main_v30 main_v31
  let main_v33 : FVec F S4x512x7 .f32 := broadcastInDim S4x512x7 ![0, 1, 2] bcast_S4x1x7_S4x512x7_0_1_2 main_v32
  fn_part2 (F := F) main_arg0 main_arg4 main_arg5 main_arg6 main_arg7 main_arg8 main_arg9 main_v28 main_v33

def fn {F : FTy → Type} [FloatOps F] (main_arg0 : FVec F S4x512x7 .f32) (main_arg1 : FVec F S4x512x4 .f32) (main_arg2 : FVec F S4x144x7 .f32) (main_arg3 : FVec F S4x144x4 .f32) (main_arg4 : FVec F S1x128 .f32) (main_arg5 : FVec F S128x128 .f32) (main_arg6 : FVec F S128x128 .f32) (main_arg7 : FVec F S128x128 .f32) (main_arg8 : FVec F S128x128 .f32) (main_arg9 : FVec F S128x8 .f32) (main_arg10 : FVec F S8x128x256 .f32) (main_arg11 : FVec F S8x256x128 .f32) (main_arg12 : FVec F S128x96 .f32) : IVec S4x2 1 :=
  let main_v0 : FVec F S4x512x7 .f32 := Host.absf main_arg0
  let main_cst : FVec F S_ .f32 := constant S_ .f32 0x7F800000#32
  let main_v1 : FVec F S4x512x7 .f32 := broadcastInDim S4x512x7 ![] bcast_S_S4x512x7 main_cst
  let main_v2 : IVec S4x512x7 1 := cmpf .olt main_v0 main_v1
  let main_c : IVec S_ 1 := constantI S_ 1 1#1
  let main_v3 : IVec S_ 1 := (fun x v => Host.reduce IntOp.andi x v reducesTo_S4x512x7_S_d0_1_2 h_S_) main_v2 main_c
  let main_v4 : FVec F S1x128 .f32 := Host.absf main_arg4
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg4 main_arg5 main_arg6 main_arg7 main_arg8 main_arg9 main_v13 main_v16
-- ==== Kernel.lean ====
abbrev S4x512x7 : Shape := ⟨3, ![4, 512, 7]⟩
abbrev S4x512x4 : Shape := ⟨3, ![4, 512, 4]⟩
abbrev S4x144x7 : Shape := ⟨3, ![4, 144, 7]⟩
abbrev S4x144x4 : Shape := ⟨3, ![4, 144, 4]⟩
abbrev S1x128 : Shape := ⟨2, ![1, 128]⟩
abbrev S128x128 : Shape := ⟨2, ![128, 128]⟩
abbrev S128x8 : Shape := ⟨2, ![128, 8]⟩
abbrev S8x128x256 : Shape := ⟨3, ![8, 128, 256]⟩
abbrev S8x256x128 : Shape := ⟨3, ![8, 256, 128]⟩
abbrev S128x96 : Shape := ⟨2, ![128, 96]⟩
abbrev S28x512 : Shape := ⟨2, ![28, 512]⟩
abbrev S4x672 : Shape := ⟨2, ![4, 672]⟩
abbrev S_ : Shape := ⟨0, ![]⟩
abbrev S512x7 : Shape := ⟨2, ![512, 7]⟩
abbrev S28x7 : Shape := ⟨2, ![28, 7]⟩
abbrev S28x1 : Shape := ⟨2, ![28, 1]⟩
abbrev S28 : Shape := ⟨1, ![28]⟩
abbrev S4x28 : Shape := ⟨2, ![4, 28]⟩
abbrev S4x7 : Shape := ⟨2, ![4, 7]⟩
abbrev S8x28 : Shape := ⟨2, ![8, 28]⟩
abbrev S8x512 : Shape := ⟨2, ![8, 512]⟩
abbrev S8x4 : Shape := ⟨2, ![8, 4]⟩
abbrev S8x7 : Shape := ⟨2, ![8, 7]⟩
abbrev S8x1 : Shape := ⟨2, ![8, 1]⟩
abbrev S8 : Shape := ⟨1, ![8]⟩
abbrev S1x1x128 : Shape := ⟨3, ![1, 1, 128]⟩
abbrev S1 : Shape := ⟨1, ![1]⟩
abbrev S1x1x1 : Shape := ⟨3, ![1, 1, 1]⟩
abbrev S8x128 : Shape := ⟨2, ![8, 128]⟩
abbrev S8x8 : Shape := ⟨2, ![8, 8]⟩
abbrev S1x128x256 : Shape := ⟨3, ![1, 128, 256]⟩
abbrev S128x256 : Shape := ⟨2, ![128, 256]⟩
abbrev S8x256 : Shape := ⟨2, ![8, 256]⟩
abbrev S1x256x128 : Shape := ⟨3, ![1, 256, 128]⟩
abbrev S256x128 : Shape := ⟨2, ![256, 128]⟩
abbrev S8x96 : Shape := ⟨2, ![8, 96]⟩
abbrev S4x8 : Shape := ⟨2, ![4, 8]⟩
abbrev S4x96 : Shape := ⟨2, ![4, 96]⟩
abbrev S4x512 : Shape := ⟨2, ![4, 512]⟩
abbrev S4x64 : Shape := ⟨2, ![4, 64]⟩
abbrev S4x1 : Shape := ⟨2, ![4, 1]⟩
abbrev S4 : Shape := ⟨1, ![4]⟩
abbrev S4x96x7 : Shape := ⟨3, ![4, 96, 7]⟩

abbrev nBuf : Space → Nat
  | .hbm => 16
  | .vmem => 11
  | .smem => 0
  | _ => 0

abbrev bufTy : (tb : Table) → Fin (tcTables nBuf tb) → BufTy
  | .hbm, ⟨0, _⟩ => ⟨S4x512x7, .f32⟩
  | .hbm, ⟨1, _⟩ => ⟨S4x512x4, .f32⟩
  | .hbm, ⟨2, _⟩ => ⟨S4x144x7, .f32⟩
  | .hbm, ⟨3, _⟩ => ⟨S4x144x4, .f32⟩
  | .hbm, ⟨4, _⟩ => ⟨S1x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x8, .f32⟩
  | .hbm, ⟨10, _⟩ => ⟨S8x128x256, .f32⟩
  | .hbm, ⟨11, _⟩ => ⟨S8x256x128, .f32⟩
  | .hbm, ⟨12, _⟩ => ⟨S128x96, .f32⟩
  | .hbm, ⟨13, _⟩ => ⟨S28x512, .f32⟩
  | .hbm, ⟨14, _⟩ => ⟨S4x672, .f32⟩
  | .hbm, ⟨15, _⟩ => ⟨S4x96x7, .f32⟩
  | .local _ .vmem, ⟨0, _⟩ => ⟨S28x512, .f32⟩
  | .local _ .vmem, ⟨1, _⟩ => ⟨S1x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x8, .f32⟩
  | .local _ .vmem, ⟨7, _⟩ => ⟨S128x96, .f32⟩
  | .local _ .vmem, ⟨8, _⟩ => ⟨S4x672, .f32⟩
  | .local _ .vmem, ⟨9, _⟩ => ⟨S8x128x256, .f32⟩
  | .local _ .vmem, ⟨10, _⟩ => ⟨S8x256x128, .f32⟩
  | _, _ => ⟨S4x512x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S28x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x672 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S4x512x7 : Shape := ⟨3, ![4, 512, 7]⟩
abbrev S4x512x4 : Shape := ⟨3, ![4, 512, 4]⟩
abbrev S4x144x7 : Shape := ⟨3, ![4, 144, 7]⟩
abbrev S4x144x4 : Shape := ⟨3, ![4, 144, 4]⟩
abbrev S1x128 : Shape := ⟨2, ![1, 128]⟩
abbrev S128x128 : Shape := ⟨2, ![128, 128]⟩
abbrev S128x8 : Shape := ⟨2, ![128, 8]⟩
abbrev S8x128x256 : Shape := ⟨3, ![8, 128, 256]⟩
abbrev S8x256x128 : Shape := ⟨3, ![8, 256, 128]⟩
abbrev S128x96 : Shape := ⟨2, ![128, 96]⟩
abbrev S_ : Shape := ⟨0, ![]⟩
abbrev S4x7 : Shape := ⟨2, ![4, 7]⟩
abbrev S4x1x7 : Shape := ⟨3, ![4, 1, 7]⟩
abbrev S28x512 : Shape := ⟨2, ![28, 512]⟩
abbrev S28x512x1 : Shape := ⟨3, ![28, 512, 1]⟩
abbrev S128 : Shape := ⟨1, ![128]⟩
abbrev S1x1x128 : Shape := ⟨3, ![1, 1, 128]⟩
abbrev S28x512x128 : Shape := ⟨3, ![28, 512, 128]⟩
abbrev S28x512x512 : Shape := ⟨3, ![28, 512, 512]⟩
abbrev S512x512 : Shape := ⟨2, ![512, 512]⟩
abbrev S1x512x512 : Shape := ⟨3, ![1, 512, 512]⟩
abbrev S14336x128 : Shape := ⟨2, ![14336, 128]⟩
abbrev S14336x8 : Shape := ⟨2, ![14336, 8]⟩
abbrev S14336 : Shape := ⟨1, ![14336]⟩
abbrev S14336x1 : Shape := ⟨2, ![14336, 1]⟩
abbrev S14336x2 : Shape := ⟨2, ![14336, 2]⟩
abbrev S14336x2x1 : Shape := ⟨3, ![14336, 2, 1]⟩
abbrev S14336x2x2 : Shape := ⟨3, ![14336, 2, 2]⟩
abbrev S1x128x256 : Shape := ⟨3, ![1, 128, 256]⟩
abbrev S128x256 : Shape := ⟨2, ![128, 256]⟩
abbrev S14336x256 : Shape := ⟨2, ![14336, 256]⟩
abbrev S1x256x128 : Shape := ⟨3, ![1, 256, 128]⟩
abbrev S256x128 : Shape := ⟨2, ![256, 128]⟩
abbrev S28x1x128 : Shape := ⟨3, ![28, 1, 128]⟩
abbrev S28x128 : Shape := ⟨2, ![28, 128]⟩
abbrev S28x96 : Shape := ⟨2, ![28, 96]⟩
abbrev S28x608 : Shape := ⟨2, ![28, 608]⟩
abbrev S4x608x7 : Shape := ⟨3, ![4, 608, 7]⟩
abbrev S4x96x7 : Shape := ⟨3, ![4, 96, 7]⟩

abbrev nBuf : Space → Nat
  | .hbm => 317
  | .vmem => 0
  | .smem => 0
  | _ => 0

abbrev hbmTy0_0 (i : Nat) : BufTy := match i % 128 with
  | 0 => ⟨S4x512x7, .f32⟩
  | 1 => ⟨S4x512x4, .f32⟩
  | 2 => ⟨S4x144x7, .f32⟩
  | 3 => ⟨S4x144x4, .f32⟩
  | 4 => ⟨S1x128, .f32⟩
  | 5 => ⟨S128x128, .f32⟩
  | 6 => ⟨S128x128, .f32⟩
  | 7 => ⟨S128x128, .f32⟩
  | 8 => ⟨S128x128, .f32⟩
  | 9 => ⟨S128x8, .f32⟩
  | 10 => ⟨S8x128x256, .f32⟩
  | 11 => ⟨S8x256x128, .f32⟩
  | 12 => ⟨S128x96, .f32⟩
  | 13 => ⟨S_, .f32⟩
  | 14 => ⟨S4x7, .f32⟩
  | 15 => ⟨S4x1x7, .f32⟩
  | 16 => ⟨S_, .f32⟩
  | 17 => ⟨S4x1x7, .f32⟩
  | 18 => ⟨S4x1x7, .f32⟩
  | 19 => ⟨S4x512x7, .f32⟩
  | 20 => ⟨S4x512x7, .f32⟩
  | 21 => ⟨S_, .i32⟩
  | 22 => ⟨S_, .f32⟩
  | 23 => ⟨S4x7, .f32⟩
  | 24 => ⟨S4x1x7, .f32⟩
  | 25 => ⟨S_, .f32⟩
  | 26 => ⟨S4x1x7, .f32⟩
  | 27 => ⟨S4x1x7, .f32⟩
  | 28 => ⟨S4x512x7, .f32⟩
  | 29 => ⟨S4x512x7, .f32⟩
  | 30 => ⟨S4x512x7, .f32⟩
  | 31 => ⟨S_, .f32⟩
  | 32 => ⟨S_, .f32⟩
  | 33 => ⟨S_, .f32⟩
  | 34 => ⟨S_, .f32⟩
  | 35 => ⟨S4x7, .f32⟩
  | 36 => ⟨S4x1x7, .f32⟩
  | 37 => ⟨S4x1x7, .f32⟩
  | 38 => ⟨S4x1x7, .f32⟩
  | 39 => ⟨S_, .f32⟩
  | 40 => ⟨S_, .i1⟩
  | 41 => ⟨S_, .f32⟩
  | 42 => ⟨S_, .f32⟩
  | 43 => ⟨S4x1x7, .f32⟩
  | 44 => ⟨S4x1x7, .f32⟩
  | 45 => ⟨S_, .f32⟩
  | 46 => ⟨S4x1x7, .f32⟩
  | 47 => ⟨S4x1x7, .f32⟩
  | 48 => ⟨S4x1x7, .f32⟩
  | 49 => ⟨S4x512x7, .f32⟩
  | 50 => ⟨S4x512x7, .f32⟩
  | 51 => ⟨S28x512, .f32⟩
  | 52 => ⟨S28x512x1, .f32⟩
  | 53 => ⟨S128, .f32⟩
  | 54 => ⟨S1x1x128, .f32⟩
  | 55 => ⟨S28x512x128, .f32⟩
  | 56 => ⟨S28x512x128, .f32⟩
  | 57 => ⟨S28x512x128, .f32⟩
  | 58 => ⟨S28x512x128, .f32⟩
  | 59 => ⟨S28x512x128, .f32⟩
  | 60 => ⟨S28x512x128, .f32⟩
  | 61 => ⟨S_, .f32⟩
  | 62 => ⟨S_, .f32⟩
  | 63 => ⟨S_, .f32⟩
  | 64 => ⟨S_, .f32⟩
  | 65 => ⟨S28x512x512, .f32⟩
  | 66 => ⟨S28x512x512, .f32⟩
  | 67 => ⟨S28x512x512, .f32⟩
  | 68 => ⟨S_, .i1⟩
  | 69 => ⟨S512x512, .i1⟩
  | 70 => ⟨S512x512, .i32⟩
  | 71 => ⟨S_, .i32⟩
  | 72 => ⟨S512x512, .i32⟩
  | 73 => ⟨S512x512, .i32⟩
  | 74 => ⟨S512x512, .i32⟩
  | 75 => ⟨S512x512, .i1⟩
  | 76 => ⟨S_, .i1⟩
  | 77 => ⟨S512x512, .i1⟩
  | 78 => ⟨S512x512, .i1⟩
  | 79 => ⟨S1x512x512, .i1⟩
  | 80 => ⟨S_, .f32⟩
  | 81 => ⟨S28x512x512, .i1⟩
  | 82 => ⟨S28x512x512, .f32⟩
  | 83 => ⟨S28x512x512, .f32⟩
  | 84 => ⟨S_, .f32⟩
  | 85 => ⟨S28x512, .f32⟩
  | 86 => ⟨S_, .f32⟩
  | 87 => ⟨S28x512, .f32⟩
  | 88 => ⟨S28x512, .f32⟩
  | 89 => ⟨S28x512x1, .f32⟩
  | 90 => ⟨S28x512x512, .f32⟩
  | 91 => ⟨S28x512x512, .f32⟩
  | 92 => ⟨S28x512x512, .f32⟩
  | 93 => ⟨S_, .f32⟩
  | 94 => ⟨S28x512, .f32⟩
  | 95 => ⟨S28x512x1, .f32⟩
  | 96 => ⟨S28x512x512, .f32⟩
  | 97 => ⟨S28x512x512, .f32⟩
  | 98 => ⟨S28x512x128, .f32⟩
  | 99 => ⟨S28x512x128, .f32⟩
  | 100 => ⟨S28x512x128, .f32⟩
  | 101 => ⟨S14336x128, .f32⟩
  | 102 => ⟨S14336x8, .f32⟩
  | 103 => ⟨S_, .f32⟩
  | 104 => ⟨S14336, .f32⟩
  | 105 => ⟨S_, .f32⟩
  | 106 => ⟨S14336, .f32⟩
  | 107 => ⟨S14336, .f32⟩
  | 108 => ⟨S14336x1, .f32⟩
  | 109 => ⟨S14336x8, .f32⟩
  | 110 => ⟨S14336x8, .f32⟩
  | 111 => ⟨S14336x8, .f32⟩
  | 112 => ⟨S_, .f32⟩
  | 113 => ⟨S14336, .f32⟩
  | 114 => ⟨S14336x1, .f32⟩
  | 115 => ⟨S14336x8, .f32⟩
  | 116 => ⟨S14336x8, .f32⟩
  | 117 => ⟨S14336x2, .f32⟩
  | 118 => ⟨S14336x2, .i32⟩
  | 119 => ⟨S_, .f32⟩
  | 120 => ⟨S14336, .f32⟩
  | 121 => ⟨S14336x1, .f32⟩
  | 122 => ⟨S14336x2, .f32⟩
  | 123 => ⟨S14336x2, .f32⟩
  | 124 => ⟨S_, .f32⟩
  | 125 => ⟨S14336x8, .f32⟩
  | 126 => ⟨S14336, .i32⟩
  | 127 => ⟨S14336x1, .i32⟩
  | _ => ⟨S4x512x7, .f32⟩

abbrev hbmTy0_1 (i : Nat) : BufTy := match i % 128 with
  | 0 => ⟨S_, .i32⟩
  | 1 => ⟨S14336x1, .i32⟩
  | 2 => ⟨S14336x1, .i1⟩
  | 3 => ⟨S_, .i32⟩
  | 4 => ⟨S14336x1, .i32⟩
  | 5 => ⟨S14336x1, .i32⟩
  | 6 => ⟨S14336x1, .i32⟩
  | 7 => ⟨S_, .i32⟩
  | 8 => ⟨S14336x2, .i32⟩
  | 9 => ⟨S14336x2, .i1⟩
  | 10 => ⟨S_, .i32⟩
  | 11 => ⟨S14336x2, .i32⟩
  | 12 => ⟨S14336x2, .i32⟩
  | 13 => ⟨S14336x2, .i32⟩
  | 14 => ⟨S14336x2, .i32⟩
  | 15 => ⟨S14336x2x1, .i32⟩
  | 16 => ⟨S14336x2x1, .i32⟩
  | 17 => ⟨S14336x2x2, .i32⟩
  | 18 => ⟨S14336x8, .f32⟩
  | 19 => ⟨S_, .f32⟩
  | 20 => ⟨S14336x128, .f32⟩
  | 21 => ⟨S1x128x256, .f32⟩
  | 22 => ⟨S128x256, .f32⟩
  | 23 => ⟨S14336x256, .f32⟩
  | 24 => ⟨S14336x256, .f32⟩
  | 25 => ⟨S14336x256, .f32⟩
  | 26 => ⟨S_, .f32⟩
  | 27 => ⟨S14336x256, .f32⟩
  | 28 => ⟨S14336x256, .f32⟩
  | 29 => ⟨S_, .f32⟩
  | 30 => ⟨S14336x256, .f32⟩
  | 31 => ⟨S14336x256, .f32⟩
  | 32 => ⟨S14336x256, .f32⟩
  | 33 => ⟨S1x256x128, .f32⟩
  | 34 => ⟨S256x128, .f32⟩
  | 35 => ⟨S14336x128, .f32⟩
  | 36 => ⟨S14336x1, .f32⟩
  | 37 => ⟨S14336x128, .f32⟩
  | 38 => ⟨S14336x128, .f32⟩
  | 39 => ⟨S14336x128, .f32⟩
  | 40 => ⟨S1x128x256, .f32⟩
  | 41 => ⟨S128x256, .f32⟩
  | 42 => ⟨S14336x256, .f32⟩
  | 43 => ⟨S14336x256, .f32⟩
  | 44 => ⟨S14336x256, .f32⟩
  | 45 => ⟨S_, .f32⟩
  | 46 => ⟨S14336x256, .f32⟩
  | 47 => ⟨S14336x256, .f32⟩
  | 48 => ⟨S_, .f32⟩
  | 49 => ⟨S14336x256, .f32⟩
  | 50 => ⟨S14336x256, .f32⟩
  | 51 => ⟨S14336x256, .f32⟩
  | 52 => ⟨S1x256x128, .f32⟩
  | 53 => ⟨S256x128, .f32⟩
  | 54 => ⟨S14336x128, .f32⟩
  | 55 => ⟨S14336x1, .f32⟩
  | 56 => ⟨S14336x128, .f32⟩
  | 57 => ⟨S14336x128, .f32⟩
  | 58 => ⟨S14336x128, .f32⟩
  | 59 => ⟨S1x128x256, .f32⟩
  | 60 => ⟨S128x256, .f32⟩
  | 61 => ⟨S14336x256, .f32⟩
  | 62 => ⟨S14336x256, .f32⟩
  | 63 => ⟨S14336x256, .f32⟩
  | 64 => ⟨S_, .f32⟩
  | 65 => ⟨S14336x256, .f32⟩
  | 66 => ⟨S14336x256, .f32⟩
  | 67 => ⟨S_, .f32⟩
  | 68 => ⟨S14336x256, .f32⟩
  | 69 => ⟨S14336x256, .f32⟩
  | 70 => ⟨S14336x256, .f32⟩
  | 71 => ⟨S1x256x128, .f32⟩
  | 72 => ⟨S256x128, .f32⟩
  | 73 => ⟨S14336x128, .f32⟩
  | 74 => ⟨S14336x1, .f32⟩
  | 75 => ⟨S14336x128, .f32⟩
  | 76 => ⟨S14336x128, .f32⟩
  | 77 => ⟨S14336x128, .f32⟩
  | 78 => ⟨S1x128x256, .f32⟩
  | 79 => ⟨S128x256, .f32⟩
  | 80 => ⟨S14336x256, .f32⟩
  | 81 => ⟨S14336x256, .f32⟩
  | 82 => ⟨S14336x256, .f32⟩
  | 83 => ⟨S_, .f32⟩
  | 84 => ⟨S14336x256, .f32⟩
  | 85 => ⟨S14336x256, .f32⟩
  | 86 => ⟨S_, .f32⟩
  | 87 => ⟨S14336x256, .f32⟩
  | 88 => ⟨S14336x256, .f32⟩
  | 89 => ⟨S14336x256, .f32⟩
  | 90 => ⟨S1x256x128, .f32⟩
  | 91 => ⟨S256x128, .f32⟩
  | 92 => ⟨S14336x128, .f32⟩
  | 93 => ⟨S14336x1, .f32⟩
  | 94 => ⟨S14336x128, .f32⟩
  | 95 => ⟨S14336x128, .f32⟩
  | 96 => ⟨S14336x128, .f32⟩
  | 97 => ⟨S1x128x256, .f32⟩
  | 98 => ⟨S128x256, .f32⟩
  | 99 => ⟨S14336x256, .f32⟩
  | 100 => ⟨S14336x256, .f32⟩
  | 101 => ⟨S14336x256, .f32⟩
  | 102 => ⟨S_, .f32⟩
  | 103 => ⟨S14336x256, .f32⟩
  | 104 => ⟨S14336x256, .f32⟩
  | 105 => ⟨S_, .f32⟩
  | 106 => ⟨S14336x256, .f32⟩
  | 107 => ⟨S14336x256, .f32⟩
  | 108 => ⟨S14336x256, .f32⟩
  | 109 => ⟨S1x256x128, .f32⟩
  | 110 => ⟨S256x128, .f32⟩
  | 111 => ⟨S14336x128, .f32⟩
  | 112 => ⟨S14336x1, .f32⟩
  | 113 => ⟨S14336x128, .f32⟩
  | 114 => ⟨S14336x128, .f32⟩
  | 115 => ⟨S14336x128, .f32⟩
  | 116 => ⟨S1x128x256, .f32⟩
  | 117 => ⟨S128x256, .f32⟩
  | 118 => ⟨S14336x256, .f32⟩
  | 119 => ⟨S14336x256, .f32⟩
  | 120 => ⟨S14336x256, .f32⟩
  | 121 => ⟨S_, .f32⟩
  | 122 => ⟨S14336x256, .f32⟩
  | 123 => ⟨S14336x256, .f32⟩
  | 124 => ⟨S_, .f32⟩
  | 125 => ⟨S14336x256, .f32⟩
  | 126 => ⟨S14336x256, .f32⟩
  | 127 => ⟨S14336x256, .f32⟩
  | _ => ⟨S4x512x7, .f32⟩

abbrev hbmTy0_2 (i : Nat) : BufTy := match i % 128 with
  | 0 => ⟨S1x256x128, .f32⟩
  | 1 => ⟨S256x128, .f32⟩
  | 2 => ⟨S14336x128, .f32⟩
  | 3 => ⟨S14336x1, .f32⟩
  | 4 => ⟨S14336x128, .f32⟩
  | 5 => ⟨S14336x128, .f32⟩
  | 6 => ⟨S14336x128, .f32⟩
  | 7 => ⟨S1x128x256, .f32⟩
  | 8 => ⟨S128x256, .f32⟩
  | 9 => ⟨S14336x256, .f32⟩
  | 10 => ⟨S14336x256, .f32⟩
  | 11 => ⟨S14336x256, .f32⟩
  | 12 => ⟨S_, .f32⟩
  | 13 => ⟨S14336x256, .f32⟩
  | 14 => ⟨S14336x256, .f32⟩
  | 15 => ⟨S_, .f32⟩
  | 16 => ⟨S14336x256, .f32⟩
  | 17 => ⟨S14336x256, .f32⟩
  | 18 => ⟨S14336x256, .f32⟩
  | 19 => ⟨S1x256x128, .f32⟩
  | 20 => ⟨S256x128, .f32⟩
  | 21 => ⟨S14336x128, .f32⟩
  | 22 => ⟨S14336x1, .f32⟩
  | 23 => ⟨S14336x128, .f32⟩
  | 24 => ⟨S14336x128, .f32⟩
  | 25 => ⟨S14336x128, .f32⟩
  | 26 => ⟨S1x128x256, .f32⟩
  | 27 => ⟨S128x256, .f32⟩
  | 28 => ⟨S14336x256, .f32⟩
  | 29 => ⟨S14336x256, .f32⟩
  | 30 => ⟨S14336x256, .f32⟩
  | 31 => ⟨S_, .f32⟩
  | 32 => ⟨S14336x256, .f32⟩
  | 33 => ⟨S14336x256, .f32⟩
  | 34 => ⟨S_, .f32⟩
  | 35 => ⟨S14336x256, .f32⟩
  | 36 => ⟨S14336x256, .f32⟩
  | 37 => ⟨S14336x256, .f32⟩
  | 38 => ⟨S1x256x128, .f32⟩
  | 39 => ⟨S256x128, .f32⟩
  | 40 => ⟨S14336x128, .f32⟩
  | 41 => ⟨S14336x1, .f32⟩
  | 42 => ⟨S14336x128, .f32⟩
  | 43 => ⟨S14336x128, .f32⟩
  | 44 => ⟨S14336x128, .f32⟩
  | 45 => ⟨S14336x128, .f32⟩
  | 46 => ⟨S28x512x128, .f32⟩
  | 47 => ⟨S28x1x128, .f32⟩
  | 48 => ⟨S28x128, .f32⟩
  | 49 => ⟨S28x96, .f32⟩
  | 50 => ⟨S28x608, .f32⟩
  | 51 => ⟨S4x608x7, .f32⟩
  | 52 => ⟨S4x96x7, .f32⟩
  | 53 => ⟨S4x7, .f32⟩
  | 54 => ⟨S4x1x7, .f32⟩
  | 55 => ⟨S4x96x7, .f32⟩
  | 56 => ⟨S4x96x7, .f32⟩
  | 57 => ⟨S4x7, .f32⟩
  | 58 => ⟨S4x1x7, .f32⟩
  | 59 => ⟨S4x96x7, .f32⟩
  | 60 => ⟨S4x96x7, .f32⟩
  | _ => ⟨S4x512x7, .f32⟩

abbrev hbmTy (i : Nat) : BufTy := match i / 128 with
  | 0 => hbmTy0_0 i
  | 1 => hbmTy0_1 i
  | 2 => hbmTy0_2 i
  | _ => ⟨S4x512x7, .f32⟩

abbrev bufTy : (tb : Table) → Fin (tcTables nBuf tb) → BufTy
  | .hbm, ⟨i, _⟩ => hbmTy i
  | _, _ => ⟨S4x512x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v6 : Ref sig .tc := ⟨.hbm, 44, rfl⟩
abbrev main_cst_1 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_2 : Ref sig .tc := ⟨.hbm, 61, rfl⟩
abbrev main_v22 : Ref sig .tc := ⟨.hbm, 62, rfl⟩
abbrev main_cst_3 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_c_4 : Ref sig .tc := ⟨.hbm, 68, rfl⟩
abbrev main_v27 : Ref sig .tc := ⟨.hbm, 69, rfl⟩
abbrev main_call1_v0 : Ref sig .tc := ⟨.hbm, 70, rfl⟩
abbrev main_call1_c : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_c_0 : Ref sig .tc := ⟨.hbm, 76, rfl⟩
abbrev main_call1_v5 : Ref sig .tc := ⟨.hbm, 77, rfl⟩
abbrev main_v28 : Ref sig .tc := ⟨.hbm, 78, rfl⟩
abbrev main_v29 : Ref sig .tc := ⟨.hbm, 79, rfl⟩
abbrev main_cst_5 : Ref sig .tc := ⟨.hbm, 80, rfl⟩
abbrev main_call2_v0 : Ref sig .tc := ⟨.hbm, 81, rfl⟩
abbrev main_call2_v1 : Ref sig .tc := ⟨.hbm, 82, rfl⟩
abbrev main_v30 : Ref sig .tc := ⟨.hbm, 83, rfl⟩
abbrev main_cst_6 : Ref sig .tc := ⟨.hbm, 84, rfl⟩
abbrev main_v31 : Ref sig .tc := ⟨.hbm, 85, rfl⟩
abbrev main_cst_7 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_cst_8 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_cst_9 : Ref sig .tc := ⟨.hbm, 103, rfl⟩
abbrev main_v47 : Ref sig .tc := ⟨.hbm, 104, rfl⟩
abbrev main_cst_10 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_cst_11 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_values : Ref sig .tc := ⟨.hbm, 117, rfl⟩
abbrev main_indices : Ref sig .tc := ⟨.hbm, 118, rfl⟩
abbrev main_cst_12 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_cst_13 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_c_14 : Ref sig .tc := ⟨.hbm, 128, rfl⟩
abbrev main_v65 : Ref sig .tc := ⟨.hbm, 129, rfl⟩
abbrev main_v66 : Ref sig .tc := ⟨.hbm, 130, rfl⟩
abbrev main_c_15 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_c_16 : Ref sig .tc := ⟨.hbm, 135, rfl⟩
abbrev main_v70 : Ref sig .tc := ⟨.hbm, 136, rfl⟩
abbrev main_v71 : Ref sig .tc := ⟨.hbm, 137, rfl⟩
abbrev main_c_17 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_cst_18 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_call3_v0 : Ref sig .tc := ⟨.hbm, 152, rfl⟩
abbrev main_call3_v1 : Ref sig .tc := ⟨.hbm, 153, rfl⟩
abbrev main_call3_cst : Ref sig .tc := ⟨.hbm, 154, rfl⟩
abbrev main_call3_v2 : Ref sig .tc := ⟨.hbm, 155, rfl⟩
abbrev main_call3_v3 : Ref sig .tc := ⟨.hbm, 156, rfl⟩
abbrev main_call3_cst_0 : Ref sig .tc := ⟨.hbm, 157, rfl⟩
abbrev main_call3_v4 : Ref sig .tc := ⟨.hbm, 158, rfl⟩
abbrev main_call3_v5 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_call4_v0 : Ref sig .tc := ⟨.hbm, 171, rfl⟩
abbrev main_call4_v1 : Ref sig .tc := ⟨.hbm, 172, rfl⟩
abbrev main_call4_cst : Ref sig .tc := ⟨.hbm, 173, rfl⟩
abbrev main_call4_v2 : Ref sig .tc := ⟨.hbm, 174, rfl⟩
abbrev main_call4_v3 : Ref sig .tc := ⟨.hbm, 175, rfl⟩
abbrev main_call4_cst_0 : Ref sig .tc := ⟨.hbm, 176, rfl⟩
abbrev main_call4_v4 : Ref sig .tc := ⟨.hbm, 177, rfl⟩
abbrev main_call4_v5 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_call5_v0 : Ref sig .tc := ⟨.hbm, 190, rfl⟩
abbrev main_call5_v1 : Ref sig .tc := ⟨.hbm, 191, rfl⟩
abbrev main_call5_cst : Ref sig .tc := ⟨.hbm, 192, rfl⟩
abbrev main_call5_v2 : Ref sig .tc := ⟨.hbm, 193, rfl⟩
abbrev main_call5_v3 : Ref sig .tc := ⟨.hbm, 194, rfl⟩
abbrev main_call5_cst_0 : Ref sig .tc := ⟨.hbm, 195, rfl⟩
abbrev main_call5_v4 : Ref sig .tc := ⟨.hbm, 196, rfl⟩
abbrev main_call5_v5 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_call6_v0 : Ref sig .tc := ⟨.hbm, 209, rfl⟩
abbrev main_call6_v1 : Ref sig .tc := ⟨.hbm, 210, rfl⟩
abbrev main_call6_cst : Ref sig .tc := ⟨.hbm, 211, rfl⟩
abbrev main_call6_v2 : Ref sig .tc := ⟨.hbm, 212, rfl⟩
abbrev main_call6_v3 : Ref sig .tc := ⟨.hbm, 213, rfl⟩
abbrev main_call6_cst_0 : Ref sig .tc := ⟨.hbm, 214, rfl⟩
abbrev main_call6_v4 : Ref sig .tc := ⟨.hbm, 215, rfl⟩
abbrev main_call6_v5 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_call7_v0 : Ref sig .tc := ⟨.hbm, 228, rfl⟩
abbrev main_call7_v1 : Ref sig .tc := ⟨.hbm, 229, rfl⟩
abbrev main_call7_cst : Ref sig .tc := ⟨.hbm, 230, rfl⟩
abbrev main_call7_v2 : Ref sig .tc := ⟨.hbm, 231, rfl⟩
abbrev main_call7_v3 : Ref sig .tc := ⟨.hbm, 232, rfl⟩
abbrev main_call7_cst_0 : Ref sig .tc := ⟨.hbm, 233, rfl⟩
abbrev main_call7_v4 : Ref sig .tc := ⟨.hbm, 234, rfl⟩
abbrev main_call7_v5 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_call8_v0 : Ref sig .tc := ⟨.hbm, 247, rfl⟩
abbrev main_call8_v1 : Ref sig .tc := ⟨.hbm, 248, rfl⟩
abbrev main_call8_cst : Ref sig .tc := ⟨.hbm, 249, rfl⟩
abbrev main_call8_v2 : Ref sig .tc := ⟨.hbm, 250, rfl⟩
abbrev main_call8_v3 : Ref sig .tc := ⟨.hbm, 251, rfl⟩
abbrev main_call8_cst_0 : Ref sig .tc := ⟨.hbm, 252, rfl⟩
abbrev main_call8_v4 : Ref sig .tc := ⟨.hbm, 253, rfl⟩
abbrev main_call8_v5 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_call9_v0 : Ref sig .tc := ⟨.hbm, 266, rfl⟩
abbrev main_call9_v1 : Ref sig .tc := ⟨.hbm, 267, rfl⟩
abbrev main_call9_cst : Ref sig .tc := ⟨.hbm, 268, rfl⟩
abbrev main_call9_v2 : Ref sig .tc := ⟨.hbm, 269, rfl⟩
abbrev main_call9_v3 : Ref sig .tc := ⟨.hbm, 270, rfl⟩
abbrev main_call9_cst_0 : Ref sig .tc := ⟨.hbm, 271, rfl⟩
abbrev main_call9_v4 : Ref sig .tc := ⟨.hbm, 272, rfl⟩
abbrev main_call9_v5 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_call10_v0 : Ref sig .tc := ⟨.hbm, 285, rfl⟩
abbrev main_call10_v1 : Ref sig .tc := ⟨.hbm, 286, rfl⟩
abbrev main_call10_cst : Ref sig .tc := ⟨.hbm, 287, rfl⟩
abbrev main_call10_v2 : Ref sig .tc := ⟨.hbm, 288, rfl⟩
abbrev main_call10_v3 : Ref sig .tc := ⟨.hbm, 289, rfl⟩
abbrev main_call10_cst_0 : Ref sig .tc := ⟨.hbm, 290, rfl⟩
abbrev main_call10_v4 : Ref sig .tc := ⟨.hbm, 291, rfl⟩
abbrev main_call10_v5 : Ref sig .tc := ⟨.hbm, 292, rfl⟩
abbrev main_v161 : Ref sig .tc := ⟨.hbm, 293, rfl⟩
abbrev main_v162 : Ref sig .tc := ⟨.hbm, 294, rfl⟩
abbrev main_v163 : Ref sig .tc := ⟨.hbm, 295, rfl⟩
abbrev main_v164 : Ref sig .tc := ⟨.hbm, 296, rfl⟩
abbrev main_v165 : Ref sig .tc := ⟨.hbm, 297, rfl⟩
abbrev main_v166 : Ref sig .tc := ⟨.hbm, 298, rfl⟩
abbrev main_v167 : Ref sig .tc := ⟨.hbm, 299, rfl⟩
abbrev main_v168 : Ref sig .tc := ⟨.hbm, 300, rfl⟩
abbrev main_v169 : Ref sig .tc := ⟨.hbm, 301, rfl⟩
abbrev main_v170 : Ref sig .tc := ⟨.hbm, 302, rfl⟩
abbrev main_v171 : Ref sig .tc := ⟨.hbm, 303, rfl⟩
abbrev main_v172 : Ref sig .tc := ⟨.hbm, 304, rfl⟩
abbrev main_v173 : Ref sig .tc := ⟨.hbm, 305, rfl⟩
abbrev main_v174 : Ref sig .tc := ⟨.hbm, 306, rfl⟩
abbrev main_v175 : Ref sig .tc := ⟨.hbm, 307, rfl⟩
abbrev main_v176 : Ref sig .tc := ⟨.hbm, 308, rfl⟩
abbrev main_v177 : Ref sig .tc := ⟨.hbm, 309, rfl⟩
abbrev main_v178 : Ref sig .tc := ⟨.hbm, 310, rfl⟩
abbrev main_v179 : Ref sig .tc := ⟨.hbm, 311, rfl⟩
abbrev main_v180 : Ref sig .tc := ⟨.hbm, 312, rfl⟩
abbrev main_v181 : Ref sig .tc := ⟨.hbm, 313, rfl⟩
abbrev main_v182 : Ref sig .tc := ⟨.hbm, 314, rfl⟩
abbrev main_v183 : Ref sig .tc := ⟨.hbm, 315, rfl⟩
abbrev main_v184 : Ref sig .tc := ⟨.hbm, 316, rfl⟩

abbrev nD : Nat := 1
abbrev τ : Topo := Topo.v7x

variable {F : FTy → Type} [FloatOps F]
-- ==== Proof.RefStats.lean ====
/-
  The reference's normalization, read at an index.
-/
module

public import proofs.«01_k».proof.Proof.Gen.ReferenceIdeal.Read
public import Idealize.ShloMosaic.Lib.Pointwise

@[expose] public section

set_option maxRecDepth 16384

noncomputable section

namespace Cert.Ref

open Idealize.ShloMosaic Cert.ReferenceIdeal Cert.ReferenceIdeal.Gen Cert.ReferenceIdeal.Read
open Idealize.ShloMosaic.Pointwise

/-- The mean of a batch entry at a channel. -/
def mean (x : FVec Ideal S4x512x7 .f32) (b : Fin 4) (c : Fin 7) : EReal :=
  Ideal.div (∑ l : Fin 512, x (ix3 b l c)) (Ideal.ofBits .f32 0x44000000#32)

/-- An entry less its mean. -/
def cen (x : FVec Ideal S4x512x7 .f32) (b : Fin 4) (l : Fin 512) (c : Fin 7) : EReal := x (ix3 b l c) - mean x b c

/-- A centred entry less the mean of the centred entries. -/
def dev (x : FVec Ideal S4x512x7 .f32) (b : Fin 4) (l : Fin 512) (c : Fin 7) : EReal :=
  cen x b l c - Ideal.div (∑ k : Fin 512, cen x b k c) (Ideal.ofBits .f32 0x44000000#32)

/-- The number of entries the variance divides by. -/
def count : EReal := Ideal.ofBits .f32 0x44000000#32 - FloatOps.sitofp (F := Ideal) .f32 (0#32 : BitVec 32)

/-- The standard deviation of a batch entry at a channel. -/
def sdev (x : FVec Ideal S4x512x7 .f32) (b : Fin 4) (c : Fin 7) : EReal :=
  Ideal.sqrt ((if 0 < count then Ideal.div (∑ l : Fin 512, dev x b l c * dev x b l c) count else Ideal.ofBits .f32 0x7FC00000#32)
    + Ideal.ofBits .f32 0x3727C5AC#32)

theorem v3_at (x : FVec Ideal S4x512x7 .f32) (b : Fin 4) (z : Fin 1) (c : Fin 7) :
    val_main_v3 (F := Ideal) x (ix3 b z c) = mean x b c := by
  pointwise [val_main_v3, val_main_v2, val_main_v1, val_main_v0, val_main_cst, val_main_cst_0]
  rfl

theorem v5_at (x : FVec Ideal S4x512x7 .f32) (b : Fin 4) (l : Fin 512) (c : Fin 7) :
    val_main_v5 (F := Ideal) x (ix3 b l c) = cen x b l c := by
  pointwise [val_main_v5, val_main_v4]
  rw [v3_at]
  rfl

theorem dev_at (x : FVec Ideal S4x512x7 .f32) (b : Fin 4) (l : Fin 512) (c : Fin 7) :
    val_main_call0_v5 (F := Ideal) x (ix3 b l c) = dev x b l c := by
  pointwise [val_main_call0_v5, val_main_call0_v4, val_main_call0_v3, val_main_call0_v2, val_main_call0_v1, val_main_call0_v0, val_main_call0_cst, val_main_call0_cst_0]
  simp only [v5_at]
  rfl

theorem v9_at (x : FVec Ideal S4x512x7 .f32) (b : Fin 4) (z : Fin 1) (c : Fin 7) :
    val_main_v9 (F := Ideal) x (ix3 b z c) = sdev x b c := by
  pointwise [val_main_v9, val_main_v8, val_main_v7, val_main_v6, val_main_cst_1, val_main_call0_v12, val_main_call0_v11, val_main_call0_v10, val_main_call0_v9, val_main_call0_v8, val_main_call0_v7, val_main_call0_v6, val_main_call0_cst_1, val_main_call0_cst_2, val_main_call0_cst_3, val_main_call0_cst_4, val_main_call0_v13, val_main_call0_call0_v0, val_main_call0_call0_v1, val_main_c]
  simp only [dev_at]
  rfl

/-- A normalized entry. -/
def norm (x : FVec Ideal S4x512x7 .f32) (b : Fin 4) (l : Fin 512) (c : Fin 7) : EReal := Ideal.div (cen x b l c) (sdev x b c)

/-- Series `n` at position `k` is the normalized array in row-major order. -/
theorem v12_at (x : FVec Ideal S4x512x7 .f32) (n : Fin 28) (k : Fin 512) :
    val_main_v12 (F := Ideal) x (ix2 n k) = norm x ⟨(n.val * 512 + k.val) / 3584, by omega⟩
      ⟨(n.val * 512 + k.val) / 7 % 512, by omega⟩ ⟨(n.val * 512 + k.val) % 7, by omega⟩ := by
  pointwise [val_main_v12, val_main_v11, val_main_v10]
  rw [v5_at, v9_at]
  have h : n.val / 7 = (n.val * 512 + k.val) / 3584 := by omega
  unfold norm
  congr 2 <;> exact Fin.ext h

end Cert.Ref
-- ==== Proof.RefHidden.lean ====
/-
  The reference's attention at the last token of a series, read at an index.
-/
module

public import proofs.«01_k».proof.Proof.RefStats

@[expose] public section

set_option maxRecDepth 16384

noncomputable section

namespace Cert.Ref

open Idealize.ShloMosaic Cert.ReferenceIdeal Cert.ReferenceIdeal.Gen Cert.ReferenceIdeal.Read
open Idealize.ShloMosaic.Pointwise

/-- A maximum along the last of three axes, whatever their sizes. -/
theorem max_last3 {n0 n1 n2 : Nat} {u : Shape} (v : FVec Ideal ⟨3, ![n0, n1, n2]⟩ .f32) (init : u.Idx → EReal)
    (h : (⟨3, ![n0, n1, n2]⟩ : Shape).ReducesTo [2] ⟨2, ![n0, n1]⟩) (hu : 0 < u.numel) (i : Fin n0) (j : Fin n1) :
    Host.reduce (FloatOps.maximumf (F := Ideal) (φ := .f32)) v init h hu (ix2 i j)
      = Finset.univ.fold max (init (Shape.Idx.first hu)) fun k : Fin n2 => v (ix3 i j k) := by
  simp only [pointwise]

/-- A maximum along the last of two axes, whatever their sizes. -/
theorem max_last2 {n0 n1 : Nat} {u : Shape} (v : FVec Ideal ⟨2, ![n0, n1]⟩ .f32) (init : u.Idx → EReal)
    (h : (⟨2, ![n0, n1]⟩ : Shape).ReducesTo [1] ⟨1, ![n0]⟩) (hu : 0 < u.numel) (i : Fin n0) :
    Host.reduce (FloatOps.maximumf (F := Ideal) (φ := .f32)) v init h hu (ix1 i)
      = Finset.univ.fold max (init (Shape.Idx.first hu)) fun k : Fin n1 => v (ix2 i k) := by
  simp only [pointwise]

/-- An entry of a series. -/
def ser (x : FVec Ideal S4x512x7 .f32) (n : Fin 28) (k : Fin 512) : EReal :=
  norm x ⟨(n.val * 512 + k.val) / 3584, by omega⟩ ⟨(n.val * 512 + k.val) / 7 % 512, by omega⟩ ⟨(n.val * 512 + k.val) % 7, by omega⟩

/-- A row of entries `X`, each spread along `w` and multiplied by `a`. -/
def proj (X : EReal) (w : FVec Ideal S1x128 .f32) (a : FVec Ideal S128x128 .f32) (d : Fin 128) : EReal :=
  ∑ i : Fin 128, X * w (ix2 0 i) * a (ix2 i d)

/-- A score of the last token of a series `X`: the scale is 1 over the root of 128. -/
def score (X : Fin 512 → EReal) (w : FVec Ideal S1x128 .f32) (wq wk : FVec Ideal S128x128 .f32) (k : Fin 512) : EReal :=
  (∑ d : Fin 128, proj (X 511) w wq d * proj (X k) w wk d)
    * Ideal.div 1 (Ideal.sqrt (Ideal.ofBits .f32 0x43000000#32))

/-- The largest score. -/
def peak (X : Fin 512 → EReal) (w : FVec Ideal S1x128 .f32) (wq wk : FVec Ideal S128x128 .f32) : EReal :=
  max (Ideal.ofBits .f32 0xFF800000#32) (Finset.univ.fold max (Ideal.ofBits .f32 0xFF800000#32) (score X w wq wk))

/-- The exponential of a score less the largest. -/
def pexp (X : Fin 512 → EReal) (w : FVec Ideal S1x128 .f32) (wq wk : FVec Ideal S128x128 .f32) (k : Fin 512) : EReal :=
  Ideal.exp (score X w wq wk k - peak X w wq wk)

/-- The hidden vector of the last token of a series. -/
def hidden (X : Fin 512 → EReal) (w : FVec Ideal S1x128 .f32) (wq wk wv wo : FVec Ideal S128x128 .f32) (d : Fin 128) : EReal :=
  X 511 * w (ix2 0 d) + ∑ i : Fin 128, (∑ k : Fin 512, Ideal.div (pexp X w wq wk k) (∑ j : Fin 512, pexp X w wq wk j) * proj (X k) w wv i) * wo (ix2 i d)

variable (x : FVec Ideal S4x512x7 .f32) (w : FVec Ideal S1x128 .f32) (wq wk wv wo : FVec Ideal S128x128 .f32)

theorem v18_at (n : Fin 28) (k : Fin 512) (d : Fin 128) : val_main_v18 (F := Ideal) x w (ix3 n k d) = ser x n k * w (ix2 0 d) := by
  pointwise [val_main_v18, val_main_v17, val_main_v16, val_main_v15, val_main_v14, val_main_v13]
  rw [v12_at]
  rfl

theorem v19_at (n : Fin 28) (k : Fin 512) (d : Fin 128) : val_main_v19 (F := Ideal) x w wq (ix3 n k d) = proj (ser x n k) w wq d := by
  pointwise [val_main_v19]
  simp only [v18_at]
  rfl

theorem v20_at (n : Fin 28) (k : Fin 512) (d : Fin 128) : val_main_v20 (F := Ideal) x w wk (ix3 n k d) = proj (ser x n k) w wk d := by
  pointwise [val_main_v20]
  simp only [v18_at]
  rfl

theorem v21_at (n : Fin 28) (k : Fin 512) (d : Fin 128) : val_main_v21 (F := Ideal) x w wv (ix3 n k d) = proj (ser x n k) w wv d := by
  pointwise [val_main_v21]
  simp only [v18_at]
  rfl

/-- The last token sees every token. -/
theorem v28_at (k : Fin 512) : val_main_v28 (F := Ideal) (ix2 511 k) = 1#1 := by
  pointwise [val_main_v28, val_main_v27, val_main_c_4, val_main_call1_v4, val_main_call1_v2, val_main_call1_v0, val_main_call1_v1, val_main_call1_c, val_main_call1_v3, val_main_call1_v5, val_main_call1_c_0]
  revert k
  decide +kernel

theorem v30_at (n : Fin 28) (k : Fin 512) :
    val_main_v30 (F := Ideal) x w wq wk (ix3 n 511 k) = score (ser x n) w wq wk k := by
  pointwise [val_main_v30, val_main_call2_v0, val_main_v29, val_main_v26, val_main_v25, val_main_v24, val_main_v23, val_main_v22, val_main_cst_2, val_main_cst_3]
  simp only [v28_at, v19_at, v20_at]
  rfl

theorem v31_at (n : Fin 28) :
    val_main_v31 (F := Ideal) x w wq wk (ix2 n 511)
      = Finset.univ.fold max (Ideal.ofBits .f32 0xFF800000#32) (score (ser x n) w wq wk) := by
  unfold val_main_v31
  refine (max_last3 _ _ _ _ n 511).trans ?_
  exact congrArg (fun f => Finset.univ.fold max (Ideal.ofBits .f32 0xFF800000#32) f) (funext fun k => v30_at x w wq wk n k)

theorem v33_at (n : Fin 28) : val_main_v33 (F := Ideal) x w wq wk (ix2 n 511) = peak (ser x n) w wq wk := by
  rw [val_main_v33_apply, val_main_v32_apply, val_main_cst_7_apply, v31_at]
  rfl

theorem v37_at (n : Fin 28) (k : Fin 512) :
    val_main_v37 (F := Ideal) x w wq wk (ix3 n 511 k) = pexp (ser x n) w wq wk k := by
  pointwise [val_main_v37, val_main_v36, val_main_v35, val_main_v34]
  rw [v30_at, v33_at]
  rfl

theorem v41_at (n : Fin 28) (k : Fin 512) :
    val_main_v41 (F := Ideal) x w wq wk (ix3 n 511 k)
      = Ideal.div (pexp (ser x n) w wq wk k) (∑ j : Fin 512, pexp (ser x n) w wq wk j) := by
  pointwise [val_main_v41, val_main_v40, val_main_v39, val_main_v38, val_main_cst_8]
  simp only [v37_at]

theorem v44_at (n : Fin 28) (d : Fin 128) :
    val_main_v44 (F := Ideal) x w wq wk wv wo (ix3 n 511 d) = hidden (ser x n) w wq wk wv wo d := by
  pointwise [val_main_v44, val_main_v43, val_main_v42]
  simp only [v18_at, v41_at, v21_at]
  rfl

/-- The row of the last token of series `n`. -/
abbrev row (n : Fin 28) : Fin 14336 := ⟨512 * n.val + 511, by omega⟩

theorem v45_at (n : Fin 28) (d : Fin 128) :
    val_main_v45 (F := Ideal) x w wq wk wv wo (ix2 (row n) d) = hidden (ser x n) w wq wk wv wo d := by
  pointwise [val_main_v45]
  have h1 : (512 * n.val + 511) / 512 = n.val := by omega
  have h2 : (512 * n.val + 511) % 512 = 511 := by omega
  simp only [h1, h2]
  exact v44_at x w wq wk wv wo n d

end Cert.Ref
-- ==== Proof.TopK.lean ====
/-
  The greatest entries of a row of eight, and the row that a scatter of the two greatest makes.
-/
module

public import Idealize.ShloMosaic.Lib.Pointwise
public import Idealize.ShloMosaic.Lib.SortFacts
public import Idealize.ShloMosaic.Lib.Routing.OpsSet

@[expose] public section

set_option maxRecDepth 16384

noncomputable section

namespace Cert.Top

open Idealize.ShloMosaic
open Idealize.ShloMosaic.Pointwise

/-- The positions of eight numbers, the greatest number's first. -/
def order (p : Fin 8 → EReal) : Fin 8 → Fin 8 := sortedFrom fun k k' => Ideal.cmp .ogt (p k) (p k') == 1#1

theorem order_injective (p : Fin 8 → EReal) : Function.Injective (order p) := sortedFrom_injective _

theorem order_surjective (p : Fin 8 → EReal) : Function.Surjective (order p) := sortedFrom_surjective _

theorem cmp_ogt_iff (x y : EReal) : (Ideal.cmp .ogt x y == 1#1) = decide (y < x) := by
  by_cases h : y < x <;> simp [Ideal.cmp, h]

/-- A later position holds no greater number. -/
theorem order_le (p : Fin 8 → EReal) (i j : Fin 8) (h : i < j) : p (order p j) ≤ p (order p i) := by
  have := sortedFrom_noInversion (fun k k' => Ideal.cmp .ogt (p k) (p k') == 1#1) (fun k k' => Ideal.cmp .ogt (p k) (p k') == 1#1)
    (by simp only [cmp_ogt_iff]; intro a b hab; simp at hab ⊢; exact hab.le) (fun _ _ h => h)
    (by simp only [cmp_ogt_iff]; intro a b c hab hbc; simp at hab hbc ⊢; exact hab.trans hbc) i j h
  rw [cmp_ogt_iff, decide_eq_false_iff_not, not_lt] at this
  exact this

section
variable {N K : Nat}

/-- Moving along the second of two axes. -/
theorem along_ix2 (r : Fin N) (j k : Fin 8) :
    Shape.Idx.along (s := ⟨2, ![N, 8]⟩) (ix2 r j) (⟨1, Nat.one_lt_two⟩ : Fin 2) k = ix2 r k := by
  funext a
  fin_cases a <;> rfl

/-- The first columns of a matrix. -/
theorem slice_ix2 {α : Type} (f : (⟨2, ![N, 8]⟩ : Shape).Idx → α) (h : (⟨2, ![N, 8]⟩ : Shape).Slices (fun _ => 0) ⟨2, ![N, K]⟩)
    (r : Fin N) (j : Fin K) (hj : j.val < 8) :
    extractStridedSlice ⟨2, ![N, K]⟩ (fun _ => 0) f h (ix2 r j) = f (ix2 r ⟨j.val, hj⟩) := by
  unfold extractStridedSlice
  congr 1
  funext a
  fin_cases a
  · exact Fin.ext (Nat.zero_add _)
  · exact Fin.ext (Nat.zero_add _)

variable (x : FVec Ideal ⟨2, ![N, 8]⟩ .f32) (h : (⟨2, ![N, 8]⟩ : Shape).Slices (fun _ => 0) ⟨2, ![N, K]⟩)

/-- The order of a row, with the row's entries read by moving along it. -/
theorem order_along (r : Fin N) (j : Fin 8) :
    (sortedFrom (fun k k' : Fin 8 => FloatOps.cmpfTotal (F := Ideal) (φ := .f32) .gt
        (x (Shape.Idx.along (s := ⟨2, ![N, 8]⟩) (ix2 r j) (⟨1, Nat.one_lt_two⟩ : Fin 2) k))
        (x (Shape.Idx.along (s := ⟨2, ![N, 8]⟩) (ix2 r j) (⟨1, Nat.one_lt_two⟩ : Fin 2) k')) == 1#1) j : Fin 8)
      = order (fun e => x (ix2 r e)) j := by
  have e : (fun k k' : Fin 8 => FloatOps.cmpfTotal (F := Ideal) (φ := .f32) .gt
        (x (Shape.Idx.along (s := ⟨2, ![N, 8]⟩) (ix2 r j) (⟨1, Nat.one_lt_two⟩ : Fin 2) k))
        (x (Shape.Idx.along (s := ⟨2, ![N, 8]⟩) (ix2 r j) (⟨1, Nat.one_lt_two⟩ : Fin 2) k')) == 1#1)
      = fun k k' => Ideal.cmp .ogt (x (ix2 r k)) (x (ix2 r k')) == 1#1 := by
    funext k k'
    rw [along_ix2, along_ix2]
    rfl
  rw [e, order]

/-- The `j`-th greatest entry of a row. -/
theorem topK_value (r : Fin N) (j : Fin K) (hj : j.val < 8) :
    (Host.topK ⟨2, ![N, K]⟩ 1 (FloatOps.cmpfTotal (F := Ideal) (φ := .f32) .gt) x h).1 (ix2 r j)
      = x (ix2 r (order (fun e => x (ix2 r e)) ⟨j.val, hj⟩)) := by
  rw [← order_along x r ⟨j.val, hj⟩]
  refine (slice_ix2 (fun j => x (Shape.Idx.along (s := ⟨2, ![N, 8]⟩) j (⟨1, Nat.one_lt_two⟩ : Fin 2) (sortedFrom (fun k k' : Fin 8 => FloatOps.cmpfTotal (F := Ideal) (φ := .f32) .gt
      (x (Shape.Idx.along (s := ⟨2, ![N, 8]⟩) j (⟨1, Nat.one_lt_two⟩ : Fin 2) k))
      (x (Shape.Idx.along (s := ⟨2, ![N, 8]⟩) j (⟨1, Nat.one_lt_two⟩ : Fin 2) k')) == 1#1) (j (⟨1, Nat.one_lt_two⟩ : Fin 2))))) h r j hj).trans ?_
  exact congrArg x (along_ix2 r ⟨j.val, hj⟩ _)

/-- Its position, as a word. -/
theorem topK_index (r : Fin N) (j : Fin K) (hj : j.val < 8) :
    (Host.topK ⟨2, ![N, K]⟩ 1 (FloatOps.cmpfTotal (F := Ideal) (φ := .f32) .gt) x h).2 (ix2 r j)
      = BitVec.ofNat 32 (order (fun e => x (ix2 r e)) ⟨j.val, hj⟩).val := by
  rw [← order_along x r ⟨j.val, hj⟩]
  refine (slice_ix2 (fun j => iotaInDim ⟨2, ![N, 8]⟩ 32 (⟨1, Nat.one_lt_two⟩ : Fin 2)
      (Shape.Idx.along (s := ⟨2, ![N, 8]⟩) j (⟨1, Nat.one_lt_two⟩ : Fin 2) (sortedFrom (fun k k' : Fin 8 => FloatOps.cmpfTotal (F := Ideal) (φ := .f32) .gt
      (x (Shape.Idx.along (s := ⟨2, ![N, 8]⟩) j (⟨1, Nat.one_lt_two⟩ : Fin 2) k))
      (x (Shape.Idx.along (s := ⟨2, ![N, 8]⟩) j (⟨1, Nat.one_lt_two⟩ : Fin 2) k')) == 1#1) (j (⟨1, Nat.one_lt_two⟩ : Fin 2))))) h r j hj).trans ?_
  exact congrArg (iotaInDim ⟨2, ![N, 8]⟩ 32 (⟨1, Nat.one_lt_two⟩ : Fin 2)) (along_ix2 r ⟨j.val, hj⟩ _)
end

end Cert.Top
-- ==== Proof.RefRouter.lean ====
/-
  The reference's router at the last token of a series: the probabilities of the eight experts and the weights that
  the two greatest get.
-/
module

public import proofs.«01_k».proof.Proof.RefHidden
public import proofs.«01_k».proof.Proof.TopK
public import Idealize.ShloMosaic.Lib.Routing.OpsPair

@[expose] public section

set_option maxRecDepth 16384

noncomputable section

namespace Cert.Ref

open Idealize.ShloMosaic Idealize.ShloMosaic.Pointwise Idealize.ShloMosaic.Routing
open Cert.ReferenceIdeal Cert.ReferenceIdeal.Gen Cert.ReferenceIdeal.Read

/-- The router's logits of a token with hidden vector `h`. -/
def logits (wr : FVec Ideal S128x8 .f32) (h : Fin 128 → EReal) (e : Fin 8) : EReal := ∑ d : Fin 128, h d * wr (ix2 d e)

/-- What the softmax subtracts. -/
def top (f : Fin 8 → EReal) : EReal :=
  max (Ideal.ofBits .f32 0xFF800000#32) (Finset.univ.fold max (Ideal.ofBits .f32 0xFF800000#32) f)

/-- The softmax of eight logits. -/
def softmax (f : Fin 8 → EReal) (e : Fin 8) : EReal :=
  Ideal.div (Ideal.exp (f e - top f)) (∑ j : Fin 8, Ideal.exp (f j - top f))

/-- The experts' weights: the two greatest probabilities over their sum, zero elsewhere. -/
def weights (p : Fin 8 → EReal) (e : Fin 8) : EReal :=
  if e = Top.order p 0 then Ideal.div (p (Top.order p 0)) (p (Top.order p 0) + p (Top.order p 1))
  else if e = Top.order p 1 then Ideal.div (p (Top.order p 1)) (p (Top.order p 0) + p (Top.order p 1))
  else Ideal.ofBits .f32 0x00000000#32

variable (x : FVec Ideal S4x512x7 .f32) (w : FVec Ideal S1x128 .f32) (wq wk wv wo : FVec Ideal S128x128 .f32)
  (wr : FVec Ideal S128x8 .f32)

/-- The probabilities at the last token of series `n`. -/
abbrev prob (n : Fin 28) : Fin 8 → EReal := softmax (logits wr (hidden (ser x n) w wq wk wv wo))

theorem v46_at (n : Fin 28) (e : Fin 8) :
    val_main_v46 (F := Ideal) x w wq wk wv wo wr (ix2 (row n) e) = logits wr (hidden (ser x n) w wq wk wv wo) e := by
  pointwise [val_main_v46]
  exact Finset.sum_congr rfl fun d _ => by rw [v45_at]

theorem v49_at (n : Fin 28) :
    val_main_v49 (F := Ideal) x w wq wk wv wo wr (ix1 (row n)) = top (logits wr (hidden (ser x n) w wq wk wv wo)) := by
  rw [val_main_v49_apply, val_main_v48_apply, val_main_cst_10_apply]
  unfold val_main_v47
  refine congrArg (max _) ((max_last2 _ _ _ _ (row n)).trans ?_)
  exact congrArg (fun f => Finset.univ.fold max (Ideal.ofBits .f32 0xFF800000#32) f) (funext fun k => v46_at x w wq wk wv wo wr n k)

theorem v53_at (n : Fin 28) (e : Fin 8) :
    val_main_v53 (F := Ideal) x w wq wk wv wo wr (ix2 (row n) e)
      = Ideal.exp (logits wr (hidden (ser x n) w wq wk wv wo) e - top (logits wr (hidden (ser x n) w wq wk wv wo))) := by
  pointwise [val_main_v53, val_main_v52, val_main_v51, val_main_v50]
  rw [v46_at, v49_at]

theorem v57_at (n : Fin 28) (e : Fin 8) :
    val_main_v57 (F := Ideal) x w wq wk wv wo wr (ix2 (row n) e) = prob x w wq wk wv wo wr n e := by
  pointwise [val_main_v57, val_main_v56, val_main_v55, val_main_v54, val_main_cst_11]
  simp only [v53_at]
  rfl

theorem values_at (n : Fin 28) (j : Fin 2) :
    val_main_values (F := Ideal) x w wq wk wv wo wr (ix2 (row n) j)
      = prob x w wq wk wv wo wr n (Top.order (prob x w wq wk wv wo wr n) ⟨j.val, by omega⟩) := by
  unfold val_main_values
  refine (Top.topK_value _ _ (row n) j (by omega)).trans ?_
  simp only [v57_at]

theorem indices_at (n : Fin 28) (j : Fin 2) :
    val_main_indices (F := Ideal) x w wq wk wv wo wr (ix2 (row n) j)
      = BitVec.ofNat 32 (Top.order (prob x w wq wk wv wo wr n) ⟨j.val, by omega⟩).val := by
  unfold val_main_indices
  refine (Top.topK_index _ _ (row n) j (by omega)).trans ?_
  simp only [v57_at]

theorem v61_at (n : Fin 28) (j : Fin 2) :
    val_main_v61 (F := Ideal) x w wq wk wv wo wr (ix2 (row n) j)
      = Ideal.div (prob x w wq wk wv wo wr n (Top.order (prob x w wq wk wv wo wr n) ⟨j.val, by omega⟩))
          (prob x w wq wk wv wo wr n (Top.order (prob x w wq wk wv wo wr n) 0)
            + prob x w wq wk wv wo wr n (Top.order (prob x w wq wk wv wo wr n) 1)) := by
  pointwise [val_main_v61, val_main_v60, val_main_v59, val_main_v58, val_main_cst_12]
  simp only [values_at]
  rw [Fin.sum_univ_two]
  rfl

/-- A position's word is not wrapped, and read back it is the position. -/
theorem word_toInt (a : Nat) (b : BitVec 32) (h : a < 2 ^ 31) :
    BitVec.toInt (Scalar.select (IntOp.cmpi .slt (BitVec.ofNat 32 a) 0#32) b (BitVec.ofNat 32 a)) = (a : Int) := by
  have ha : (BitVec.ofNat 32 a).toNat = a := by rw [BitVec.toNat_ofNat]; omega
  rw [wrap_of_lt _ _ (by rw [ha]; exact h), BitVec.toInt_eq_toNat_of_lt (by rw [ha]; omega), ha]

theorem row_word (r : Fin 14336) (j : Fin 2) : (val_main_v78 (F := Ideal) x w wq wk wv wo wr (ix3 r j 0)).toInt = (r.val : Int) := by
  pointwise [val_main_v78, val_main_v76, val_main_v75, val_main_v69, val_main_v68, val_main_v67, val_main_v66, val_main_v65, val_main_v64, val_main_v63,
    val_main_c_14, val_main_c_15]
  exact word_toInt r.val _ (by omega)

theorem col_word (n : Fin 28) (j : Fin 2) : (val_main_v78 (F := Ideal) x w wq wk wv wo wr (ix3 (row n) j 1)).toInt
    = ((Top.order (prob x w wq wk wv wo wr n) ⟨j.val, by omega⟩).val : Int) := by
  pointwise [val_main_v78, val_main_v77, val_main_v74, val_main_v73, val_main_v72, val_main_v71, val_main_v70, val_main_c_16, val_main_c_17]
  have e := indices_at x w wq wk wv wo wr n j
  rw [show (ix2 ⟨512 * n.val + 511, by omega⟩ j : S14336x2.Idx) = ix2 (row n) j from rfl, e]
  exact word_toInt _ _ (by omega)

theorem lands (n : Fin 28) (a : Fin 14336) (b : Fin 2) (e : Fin 8) :
    scatter_S14336x8_S14336x2x2_S14336x2_n_01_01_2.resultIdx? (ix2 a b) (val_main_v78 (F := Ideal) x w wq wk wv wo wr) = some (ix2 (row n) e)
      ↔ a = row n ∧ Top.order (prob x w wq wk wv wo wr n) ⟨b.val, by omega⟩ = e := by
  refine (scatter_lands2 scatter_S14336x8_S14336x2x2_S14336x2_n_01_01_2 rfl rfl rfl _ a b (row n) e).trans ?_
  show (val_main_v78 (F := Ideal) x w wq wk wv wo wr (ix3 a b 0)).toInt = ((row n).val : Int)
    ∧ (val_main_v78 (F := Ideal) x w wq wk wv wo wr (ix3 a b 1)).toInt = (e.val : Int) ↔ _
  rw [row_word]
  constructor
  · rintro ⟨h, h'⟩
    have ha : a = row n := Fin.ext (by exact_mod_cast h)
    subst ha
    rw [col_word] at h'
    exact ⟨rfl, Fin.ext (by exact_mod_cast h')⟩
  · rintro ⟨rfl, rfl⟩
    exact ⟨rfl, col_word x w wq wk wv wo wr n b⟩

theorem v79_at (n : Fin 28) (e : Fin 8) :
    val_main_v79 (F := Ideal) x w wq wk wv wo wr (ix2 (row n) e) = weights (prob x w wq wk wv wo wr n) e := by
  unfold val_main_v79 weights
  have hit : ∀ b : Fin 2, Top.order (prob x w wq wk wv wo wr n) ⟨b.val, by omega⟩ = e →
      Host.scatter scatter_S14336x8_S14336x2x2_S14336x2_n_01_01_2 (fun _ b => b) (val_main_v62 (F := Ideal)) (val_main_v78 (F := Ideal) x w wq wk wv wo wr)
        (val_main_v61 (F := Ideal) x w wq wk wv wo wr) (ix2 (row n) e) = val_main_v61 (F := Ideal) x w wq wk wv wo wr (ix2 (row n) b) := by
    intro b hb
    refine scatter_set_hit _ _ _ _ _ _ (fun k hk => ?_) (ix2 (row n) b) ((lands x w wq wk wv wo wr n _ b e).2 ⟨rfl, hb⟩)
    rw [eq_ix2 k] at hk ⊢
    obtain ⟨h1, h2⟩ := (lands x w wq wk wv wo wr n _ _ e).1 hk
    have h3 := Top.order_injective _ (h2.trans hb.symm)
    refine congrArg _ ?_
    rw [h1]
    exact congrArg (ix2 (row n)) (Fin.ext (Fin.mk.inj h3))
  by_cases h0 : e = Top.order (prob x w wq wk wv wo wr n) 0
  · rw [if_pos h0, hit 0 h0.symm, v61_at]
    rfl
  rw [if_neg h0]
  by_cases h1 : e = Top.order (prob x w wq wk wv wo wr n) 1
  · rw [if_pos h1, hit 1 h1.symm, v61_at]
    rfl
  rw [if_neg h1]
  refine (scatter_set_miss _ _ _ _ _ fun k hk => ?_).trans ?_
  · rw [eq_ix2 k] at hk
    obtain ⟨-, h2⟩ := (lands x w wq wk wv wo wr n _ _ e).1 hk
    generalize k 1 = b at h2
    revert b
    intro (b : Fin 2) h2
    fin_cases b
    · exact h0 h2.symm
    · exact h1 h2.symm
  · pointwise [val_main_v62, val_main_cst_13]

end Cert.Ref
-- ==== Proof.OneHot.lean ====
/-
  The integer vectors of the kernel and the one-hot matrices made of them, read at an index.

  The kernel places its values by matrices of zeros and ones: each is a comparison of two integer vectors, widened and
  converted. Here every such matrix is read at an index as `if … then 1 else 0` over plain natural numbers.
-/
module

public import proofs.«01_k».proof.Proof.Gen.KernelIdeal.Skeleton
public import Idealize.ShloMosaic.Lib.Pointwise

@[expose] public section

set_option maxRecDepth 16384

noncomputable section

namespace Cert.Ker

open Idealize.ShloMosaic Cert.KernelIdeal Cert.KernelIdeal.Gen
open Idealize.ShloMosaic.Pointwise

/-- A bit, widened to a word and converted, is one or zero. -/
theorem sitofp_bit (b : BitVec 1) : (FloatOps.sitofp (F := Ideal) .f32 (BitVec.setWidth 32 b) : EReal) = if b = 1#1 then 1 else 0 := by
  rcases (by decide +revert : b = 0#1 ∨ b = 1#1) with rfl | rfl
  · show (((0 : ℤ) : ℝ) : EReal) = _
    simp
  · show (((1 : ℤ) : ℝ) : EReal) = _
    simp

/-- Position `k` of a row belongs to residue `c` modulo seven. -/
theorem residue_at (k : Fin 512) (c : Fin 7) :
    k0_pay3 (F := Ideal) (ix2 k c) = if k.val % 7 = c.val then 1 else 0 := by
  pointwise [k0_pay3]
  rw [sitofp_bit]
  refine if_congr ?_ rfl rfl
  revert k c
  decide +kernel

/-- The rotation of residues of series `n`: channel `c` sits at residue `(c - n) mod 7`. -/
theorem rot_at : ∀ (n : Fin 28) (c : Fin 7),
    k0_pay8 7#32 k0_pay6 k0_pay7 (ix2 n c) = BitVec.ofNat 32 ((c.val + 28 - n.val) % 7) := by
  decide +kernel

/-- Series `n` belongs to batch entry `b`. -/
theorem batch_at (b : Fin 4) (n : Fin 28) :
    k0_pay23 (F := Ideal) (iota .tc S4x28 32 [0] iota_S4x28_d0_w32) (iota .tc S4x28 32 [1] iota_S4x28_d1_w32) 7#32
      k0_pay21 k0_pay22 (ix2 b n) = if n.val / 7 = b.val then 1 else 0 := by
  pointwise [k0_pay23, k0_pay21, k0_pay22]
  rw [sitofp_bit]
  refine if_congr ?_ rfl rfl
  revert b n
  decide +kernel

/-- The channel of position `j` of row `r`: row `r` is series `7 (r / 2) + 5 + r % 2`. -/
theorem chan_at : ∀ (r : Fin 8) (j : Fin 512),
    k0_pay31 (iota .tc S8x512 32 [0] iota_S8x512_d0_w32) (iota .tc S8x512 32 [1] iota_S8x512_d1_w32) 2#32 0#1 1#32
      (ix2 r j) = BitVec.ofNat 32 ((5 + r.val % 2 + j.val) % 7) := by
  decide +kernel

/-- Row `r` belongs to batch entry `b`. -/
theorem half_at (r : Fin 8) (b : Fin 4) :
    k0_pay34 (F := Ideal) (iota .tc S8x4 32 [0] iota_S8x4_d0_w32) 2#32 k0_pay32 k0_pay33 1#32 (ix2 r b)
      = if b.val = r.val / 2 then 1 else 0 := by
  pointwise [k0_pay34, k0_pay32, k0_pay33]
  rw [sitofp_bit]
  refine if_congr ?_ rfl rfl
  revert r b
  decide +kernel

/-- The channel of position `j` of an output row. -/
theorem outchan_at : ∀ (b : Fin 4) (j : Fin 672), k0_pay65 (ix2 b j) = BitVec.ofNat 32 (j.val % 7) := by
  decide +kernel

/-- Seven selects by the value of a small word pick the entry the word names. -/
theorem pick_seven {α : Type} (f : Fin 7 → α) (z : α) (k : ℕ) (hk : k < 7) :
    Scalar.select (IntOp.cmpi .eq (BitVec.ofNat 32 k) 6#32) (f 6)
      (Scalar.select (IntOp.cmpi .eq (BitVec.ofNat 32 k) 5#32) (f 5)
        (Scalar.select (IntOp.cmpi .eq (BitVec.ofNat 32 k) 4#32) (f 4)
          (Scalar.select (IntOp.cmpi .eq (BitVec.ofNat 32 k) 3#32) (f 3)
            (Scalar.select (IntOp.cmpi .eq (BitVec.ofNat 32 k) 2#32) (f 2)
              (Scalar.select (IntOp.cmpi .eq (BitVec.ofNat 32 k) 1#32) (f 1)
                (Scalar.select (IntOp.cmpi .eq (BitVec.ofNat 32 k) 0#32) (f 0) z)))))) = f ⟨k, hk⟩ := by
  interval_cases k <;> rfl

/-- A sum against a one-hot row is the entry at the hot place. -/
theorem sum_onehot {n : ℕ} (p : Fin n → Prop) [DecidablePred p] (i : Fin n) (h : ∀ k, p k ↔ k = i) (f : Fin n → EReal) :
    ∑ k, (if p k then (1 : EReal) else 0) * f k = f i := by
  rw [Finset.sum_eq_single i]
  · rw [if_pos ((h i).2 rfl), one_mul]
  · intro k _ hk
    rw [if_neg (fun e => hk ((h k).1 e)), zero_mul]
  · exact fun e => absurd (Finset.mem_univ i) e

end Cert.Ker
-- ==== Proof.KerStats.lean ====
/-
  The kernel's statistics and its normalized rows, read at an index.

  The stages of the kernel from the raw rows to the normalized rows, as functions of the raw rows alone, and what each
  holds at an index.
-/
module

public import proofs.«01_k».proof.Proof.OneHot

@[expose] public section

set_option maxRecDepth 16384

noncomputable section

namespace Cert.Ker

open Idealize.ShloMosaic Cert.KernelIdeal Cert.KernelIdeal.Gen
open Idealize.ShloMosaic.Pointwise

/-- The kernel's rotation vector. -/
abbrev rot : IVec S28x7 32 := k0_pay8 7#32 k0_pay6 k0_pay7

/-- The residue sums of the rows, put at the channels they belong to. -/
def sums1 (x : FVec Ideal S28x512 .f32) : FVec Ideal S28x7 .f32 :=
  k0_pay19 (k0_pay4 x) rot (k0_pay12 (k0_pay4 x) 7#32 k0_pay6 k0_pay7) (k0_pay14 7#32 k0_pay6 k0_pay7) (k0_pay15 (k0_pay4 x))

/-- The residue sums of the squares, put at the channels they belong to. -/
def sums2 (x : FVec Ideal S28x512 .f32) : FVec Ideal S28x7 .f32 :=
  k0_pay20 (k0_pay5 x) rot (k0_pay13 (k0_pay5 x) 7#32 k0_pay6 k0_pay7) (k0_pay14 7#32 k0_pay6 k0_pay7)

/-- The means, one for each batch entry and channel. -/
def mean (x : FVec Ideal S28x512 .f32) : FVec Ideal S4x7 .f32 :=
  k0_pay24 (sums1 x) (iota .tc S4x28 32 [0] iota_S4x28_d0_w32) (iota .tc S4x28 32 [1] iota_S4x28_d1_w32) 7#32 k0_pay21 k0_pay22

/-- The standard deviations, one for each batch entry and channel. -/
def sdev (x : FVec Ideal S28x512 .f32) : FVec Ideal S4x7 .f32 :=
  k0_pay25 (sums1 x) (sums2 x) (iota .tc S4x28 32 [0] iota_S4x28_d0_w32) (iota .tc S4x28 32 [1] iota_S4x28_d1_w32) 7#32
    k0_pay21 k0_pay22

/-- One over the standard deviations. -/
def rsdev (x : FVec Ideal S28x512 .f32) : FVec Ideal S4x7 .f32 :=
  k0_pay26 (sums1 x) (sums2 x) (iota .tc S4x28 32 [0] iota_S4x28_d0_w32) (iota .tc S4x28 32 [1] iota_S4x28_d1_w32) 7#32
    k0_pay21 k0_pay22

/-- The raw rows of the two last series of each batch entry. -/
def picked (x : FVec Ideal S28x512 .f32) : FVec Ideal S8x512 .f32 :=
  k0_pay30 (k0_pay2 x) (iota .tc S8x28 32 [0] iota_S8x28_d0_w32) (iota .tc S8x28 32 [1] iota_S8x28_d1_w32) 2#32
    k0_pay27 k0_pay28 k0_pay29

/-- The channel of each position of the picked rows. -/
abbrev chan : IVec S8x512 32 :=
  k0_pay31 (iota .tc S8x512 32 [0] iota_S8x512_d0_w32) (iota .tc S8x512 32 [1] iota_S8x512_d1_w32) 2#32 0#1 1#32

/-- A statistic of the batch entries, copied to the picked rows. -/
def spread1 (x : FVec Ideal S28x512 .f32) : FVec Ideal S8x7 .f32 :=
  k0_pay35 (mean x) (iota .tc S8x4 32 [0] iota_S8x4_d0_w32) 2#32 k0_pay32 k0_pay33 1#32

/-- One over the standard deviations, copied to the picked rows. -/
def spread2 (x : FVec Ideal S28x512 .f32) : FVec Ideal S8x7 .f32 :=
  k0_pay36 (rsdev x) (iota .tc S8x4 32 [0] iota_S8x4_d0_w32) 2#32 k0_pay32 k0_pay33 1#32

/-- The means at the first six channels of each position. -/
def part1 (x : FVec Ideal S28x512 .f32) : FVec Ideal S8x512 .f32 :=
  k0_pay46 chan (spread1 x) (k0_pay39 (mean x) chan (iota .tc S8x4 32 [0] iota_S8x4_d0_w32) 2#32 k0_pay32 k0_pay33 1#32) k0_pay41

/-- One over the standard deviations at the first six channels of each position. -/
def part2 (x : FVec Ideal S28x512 .f32) : FVec Ideal S8x512 .f32 :=
  k0_pay47 chan (spread2 x) (k0_pay40 (rsdev x) chan (iota .tc S8x4 32 [0] iota_S8x4_d0_w32) 2#32 k0_pay32 k0_pay33 1#32) k0_pay41

/-- The normalized picked rows. -/
def rows (x : FVec Ideal S28x512 .f32) : FVec Ideal S8x512 .f32 :=
  k0_pay49 (picked x) chan (spread1 x) (spread2 x) (part1 x) (part2 x) k0_pay48

/-- The channel of position `k` of series `n` is `(n + k) mod 7`. -/
theorem residue_iff (n c k : ℕ) (hn : n < 28) (hc : c < 7) : k % 7 = (c + 28 - n) % 7 ↔ (n + k) % 7 = c := by omega

/-- A residue sum at the channel it belongs to: the entries of series `n` at channel `c`. -/
theorem sums1_at (x : FVec Ideal S28x512 .f32) (n : Fin 28) (c : Fin 7) :
    sums1 x (ix2 n c) = ∑ k : Fin 512, if (n.val + k.val) % 7 = c.val then x (ix2 n k) else 0 := by
  have h : sums1 x (ix2 n c) = k0_pay4 x (ix2 n ⟨(c.val + 28 - n.val) % 7, Nat.mod_lt _ (by decide)⟩) := by
    pointwise [sums1, k0_pay19, k0_pay12, k0_pay14, k0_pay15, k0_pay9, k0_pay10, k0_pay11, k0_pay16, k0_pay17, k0_pay18]
    rw [show rot (ix2 n c) = _ from rot_at n c, rot_at]
    exact pick_seven (fun i => k0_pay4 (F := Ideal) x (ix2 n i)) 0 _ _
  rw [h]
  pointwise [k0_pay4, k0_pay2]
  refine Finset.sum_congr rfl fun k _ => ?_
  rw [residue_at, mul_ite, mul_one, mul_zero]
  exact if_congr (residue_iff n c k n.isLt c.isLt) rfl rfl

/-- A residue sum of squares at the channel it belongs to. -/
theorem sums2_at (x : FVec Ideal S28x512 .f32) (n : Fin 28) (c : Fin 7) :
    sums2 x (ix2 n c) = ∑ k : Fin 512, if (n.val + k.val) % 7 = c.val then x (ix2 n k) * x (ix2 n k) else 0 := by
  have h : sums2 x (ix2 n c) = k0_pay5 x (ix2 n ⟨(c.val + 28 - n.val) % 7, Nat.mod_lt _ (by decide)⟩) := by
    pointwise [sums2, k0_pay20, k0_pay13, k0_pay14, k0_pay9, k0_pay10, k0_pay11, k0_pay16, k0_pay17, k0_pay18]
    rw [show rot (ix2 n c) = _ from rot_at n c, rot_at]
    exact pick_seven (fun i => k0_pay5 (F := Ideal) x (ix2 n i)) 0 _ _
  rw [h]
  pointwise [k0_pay5, k0_pay2]
  refine Finset.sum_congr rfl fun k _ => ?_
  rw [residue_at, mul_ite, mul_one, mul_zero]
  exact if_congr (residue_iff n c k n.isLt c.isLt) rfl rfl

/-- The series and the position where time step `l` of channel `c` of batch entry `b` lies. -/
abbrev at_ (b : Fin 4) (l : Fin 512) (c : Fin 7) : S28x512.Idx :=
  ix2 (⟨7 * b.val + (7 * l.val + c.val) / 512, by omega⟩ : Fin 28) (⟨(7 * l.val + c.val) % 512, Nat.mod_lt _ (by decide)⟩ : Fin 512)

/-- The entries of the seven series of a batch entry that lie at one channel are that channel's time steps. -/
theorem sum_channel (f : Fin 28 → Fin 512 → EReal) (b : Fin 4) (c : Fin 7) :
    (∑ n : Fin 28, (if n.val / 7 = b.val then (1 : EReal) else 0) * ∑ k : Fin 512, if (n.val + k.val) % 7 = c.val then f n k else 0)
      = ∑ l : Fin 512, f ⟨7 * b.val + (7 * l.val + c.val) / 512, by omega⟩ ⟨(7 * l.val + c.val) % 512, Nat.mod_lt _ (by decide)⟩ := by
  have e1 : ∀ n : Fin 28, (if n.val / 7 = b.val then (1 : EReal) else 0) * (∑ k : Fin 512, if (n.val + k.val) % 7 = c.val then f n k else 0)
      = ∑ k : Fin 512, if n.val / 7 = b.val ∧ (n.val + k.val) % 7 = c.val then f n k else 0 := by
    intro n
    by_cases h : n.val / 7 = b.val
    · simp only [h, if_true, one_mul, true_and]
    · simp only [h, if_false, zero_mul, false_and, Finset.sum_const_zero]
  simp only [e1]
  rw [← Finset.sum_product', ← Finset.sum_filter]
  refine Finset.sum_nbij'
    (i := fun p => (⟨((p.1.val - 7 * b.val) * 512 + p.2.val) / 7 % 512, Nat.mod_lt _ (by decide)⟩ : Fin 512))
    (j := fun l => ((⟨7 * b.val + (7 * l.val + c.val) / 512, by omega⟩ : Fin 28),
      (⟨(7 * l.val + c.val) % 512, Nat.mod_lt _ (by decide)⟩ : Fin 512))) ?_ ?_ ?_ ?_ ?_
  · intro p _; exact Finset.mem_univ _
  · intro l _
    simp only [Finset.mem_filter, Finset.mem_product, Finset.mem_univ, true_and]
    omega
  · rintro ⟨⟨n, hn⟩, ⟨k, hk⟩⟩ hp
    simp only [Finset.mem_filter, Finset.mem_product, Finset.mem_univ, true_and] at hp
    simp only [Prod.mk.injEq, Fin.mk.injEq]
    omega
  · rintro ⟨l, hl⟩ _
    simp only [Fin.mk.injEq]
    omega
  · rintro ⟨⟨n, hn⟩, ⟨k, hk⟩⟩ hp
    simp only [Finset.mem_filter, Finset.mem_product, Finset.mem_univ, true_and] at hp
    have e : (⟨7 * b.val + (7 * (((n - 7 * b.val) * 512 + k) / 7 % 512) + c.val) / 512, by omega⟩ : Fin 28) = ⟨n, hn⟩ ∧
        (⟨(7 * (((n - 7 * b.val) * 512 + k) / 7 % 512) + c.val) % 512, Nat.mod_lt _ (by decide)⟩ : Fin 512) = ⟨k, hk⟩ := by
      simp only [Fin.mk.injEq]
      omega
    rw [e.1, e.2]

/-- The mean of a channel: the sum of its time steps, times 1/512. -/
theorem mean_at (x : FVec Ideal S28x512 .f32) (b : Fin 4) (c : Fin 7) :
    mean x (ix2 b c) = (∑ l : Fin 512, x (at_ b l c)) * Ideal.ofBits .f32 0x3B000000#32 := by
  pointwise [mean, k0_pay24]
  congr 1
  rw [← sum_channel (fun n k => x (ix2 n k))]
  refine Finset.sum_congr rfl fun n _ => ?_
  rw [batch_at, sums1_at]

/-- The standard deviation of a channel, from the mean of its squares and its mean. -/
theorem sdev_at (x : FVec Ideal S28x512 .f32) (b : Fin 4) (c : Fin 7) :
    sdev x (ix2 b c) = Ideal.sqrt ((∑ l : Fin 512, x (at_ b l c) * x (at_ b l c)) * Ideal.ofBits .f32 0x3B000000#32
      - mean x (ix2 b c) * mean x (ix2 b c) + Ideal.ofBits .f32 0x3727C5AC#32) := by
  pointwise [sdev, k0_pay25]
  congr 4
  rw [← sum_channel (fun n k => x (ix2 n k) * x (ix2 n k))]
  refine Finset.sum_congr rfl fun n _ => ?_
  rw [batch_at, sums2_at]

/-- One over the standard deviation of a channel. -/
theorem rsdev_at (x : FVec Ideal S28x512 .f32) (b : Fin 4) (c : Fin 7) :
    rsdev x (ix2 b c) = Ideal.div (Ideal.ofBits .f32 0x3F800000#32) (sdev x (ix2 b c)) := by
  pointwise [rsdev, k0_pay26]
  rfl

/-- The series of picked row `r`. -/
abbrev ser (r : Fin 8) : Fin 28 := ⟨7 * (r.val / 2) + 5 + r.val % 2, by omega⟩

/-- The batch entry of picked row `r`. -/
abbrev ent (r : Fin 8) : Fin 4 := ⟨r.val / 2, by omega⟩

/-- The channel of position `j` of picked row `r`. -/
abbrev chn (r : Fin 8) (j : Fin 512) : Fin 7 := ⟨(5 + r.val % 2 + j.val) % 7, Nat.mod_lt _ (by decide)⟩

/-- A picked row is the row of its series. -/
theorem picked_at (x : FVec Ideal S28x512 .f32) (r : Fin 8) (j : Fin 512) : picked x (ix2 r j) = x (ix2 (ser r) j) := by
  pointwise [picked, k0_pay30, k0_pay27, k0_pay28, k0_pay29, k0_pay2]
  simp only [sitofp_bit]
  refine sum_onehot _ (ser r) ?_ _
  revert r
  decide +kernel

/-- The means copied to a picked row are its batch entry's. -/
theorem spread1_at (x : FVec Ideal S28x512 .f32) (r : Fin 8) (c : Fin 7) : spread1 x (ix2 r c) = mean x (ix2 (ent r) c) := by
  pointwise [spread1, k0_pay35]
  refine (Finset.sum_congr rfl fun b _ => by rw [half_at]).trans ?_
  exact sum_onehot (fun b : Fin 4 => b.val = r.val / 2) (ent r) (fun b => by rw [Fin.ext_iff]) (fun b => mean x (ix2 b c))

/-- What is copied of the reciprocals to a picked row is its batch entry's. -/
theorem spread2_at (x : FVec Ideal S28x512 .f32) (r : Fin 8) (c : Fin 7) : spread2 x (ix2 r c) = rsdev x (ix2 (ent r) c) := by
  pointwise [spread2, k0_pay36]
  refine (Finset.sum_congr rfl fun b _ => by rw [half_at]).trans ?_
  exact sum_onehot (fun b : Fin 4 => b.val = r.val / 2) (ent r) (fun b => by rw [Fin.ext_iff]) (fun b => rsdev x (ix2 b c))

/-- A normalized row: the entry less its channel's mean, times one over its channel's standard deviation. -/
theorem rows_at (x : FVec Ideal S28x512 .f32) (r : Fin 8) (j : Fin 512) :
    rows x (ix2 r j) = (x (ix2 (ser r) j) - mean x (ix2 (ent r) (chn r j))) * rsdev x (ix2 (ent r) (chn r j)) := by
  rw [← picked_at x, ← spread1_at x, ← spread2_at x]
  pointwise [rows, k0_pay49, k0_pay48, part1, part2, k0_pay46, k0_pay47, k0_pay39, k0_pay40, k0_pay41, k0_pay37, k0_pay38,
    k0_pay42, k0_pay43, k0_pay44, k0_pay45]
  rw [show chan (ix2 r j) = _ from chan_at r j]
  congr 1
  · congr 1
    exact pick_seven (fun i => spread1 x (ix2 r i)) 0 _ _
  · exact pick_seven (fun i => spread2 x (ix2 r i)) 0 _ _

end Cert.Ker
-- ==== Proof.KerHidden.lean ====
/-
  The kernel's hidden vectors, read at an index.

  The attention of the last token over its row, computed from the normalized row alone: one number scales the scores,
  one weighted average of the row's entries scales the value vector.
-/
module

public import proofs.«01_k».proof.Proof.KerStats

@[expose] public section

set_option maxRecDepth 16384

noncomputable section

namespace Cert.Ker

open Idealize.ShloMosaic Cert.KernelIdeal Cert.KernelIdeal.Gen
open Idealize.ShloMosaic.Pointwise

/-- The embedding vector through the value weights and the output weights. -/
def outvec (w : FVec Ideal S1x128 .f32) (wv wo : FVec Ideal S128x128 .f32) : FVec Ideal S1x128 .f32 := k0_pay50 w wv wo

/-- The last entries of the normalized rows. -/
def last (x : FVec Ideal S28x512 .f32) : FVec Ideal S8x1 .f32 :=
  k0_pay51 (picked x) chan (spread1 x) (spread2 x) (part1 x) (part2 x) k0_pay48

/-- The exponentials of the last token's scores, less the largest score. -/
def pexp (x : FVec Ideal S28x512 .f32) (w : FVec Ideal S1x128 .f32) (wq wk : FVec Ideal S128x128 .f32) : FVec Ideal S8x512 .f32 :=
  k0_pay52 (picked x) chan (spread1 x) (spread2 x) (part1 x) (part2 x) k0_pay48 w wq wk

/-- The exponentials times the row. -/
def pexpx (x : FVec Ideal S28x512 .f32) (w : FVec Ideal S1x128 .f32) (wq wk : FVec Ideal S128x128 .f32) : FVec Ideal S8x512 .f32 :=
  k0_pay53 (picked x) chan (spread1 x) (spread2 x) (part1 x) (part2 x) k0_pay48 w wq wk

/-- The hidden vectors of the last tokens of the picked rows. -/
def hidden (x : FVec Ideal S28x512 .f32) (w : FVec Ideal S1x128 .f32) (wq wk wv wo : FVec Ideal S128x128 .f32) :
    FVec Ideal S8x128 .f32 :=
  k0_pay54 w (outvec w wv wo) (last x) (pexp x w wq wk) (pexpx x w wq wk)

/-- The embedding vector through a weight matrix. -/
def through (w : FVec Ideal S1x128 .f32) (a : FVec Ideal S128x128 .f32) (d : Fin 128) : EReal :=
  ∑ i : Fin 128, w (ix2 0 i) * a (ix2 i d)

/-- The number that scales the scores; its last factor is the constant named 1/√128. -/
def scale (w : FVec Ideal S1x128 .f32) (wq wk : FVec Ideal S128x128 .f32) : EReal :=
  (∑ d : Fin 128, through w wq d * through w wk d)
    * Named.named (F := Ideal) Cert.KernelIdeal.κ "inv_sqrt_d" (φ := .f32) 0x3DB504F3#32

/-- A score of the last token. -/
def score (x : FVec Ideal S28x512 .f32) (w : FVec Ideal S1x128 .f32) (wq wk : FVec Ideal S128x128 .f32) (r : Fin 8)
    (j : Fin 512) : EReal :=
  scale w wq wk * rows x (ix2 r 511) * rows x (ix2 r j)

theorem outvec_at (w : FVec Ideal S1x128 .f32) (wv wo : FVec Ideal S128x128 .f32) (d : Fin 128) :
    outvec w wv wo (ix2 0 d) = ∑ i : Fin 128, through w wv i * wo (ix2 i d) := by
  pointwise [outvec, k0_pay50, through]

theorem last_at (x : FVec Ideal S28x512 .f32) (r : Fin 8) : last x (ix2 r 0) = rows x (ix2 r 511) := by
  pointwise [last, k0_pay51, rows]

theorem pexp_at (x : FVec Ideal S28x512 .f32) (w : FVec Ideal S1x128 .f32) (wq wk : FVec Ideal S128x128 .f32) (r : Fin 8)
    (j : Fin 512) :
    pexp x w wq wk (ix2 r j)
      = Ideal.exp (score x w wq wk r j - Finset.univ.fold max (Ideal.ofBits .f32 0xFF800000#32) (score x w wq wk r)) := by
  pointwise [pexp, k0_pay52, score, scale, through, rows]
  have e := last_at x r
  unfold last rows at e
  rw [e]
  simp only [Finset.univ_unique, Finset.sum_singleton]

theorem pexpx_at (x : FVec Ideal S28x512 .f32) (w : FVec Ideal S1x128 .f32) (wq wk : FVec Ideal S128x128 .f32) (r : Fin 8)
    (j : Fin 512) : pexpx x w wq wk (ix2 r j) = pexp x w wq wk (ix2 r j) * rows x (ix2 r j) := by
  pointwise [pexpx, k0_pay53, pexp, rows]

theorem hidden_at (x : FVec Ideal S28x512 .f32) (w : FVec Ideal S1x128 .f32) (wq wk wv wo : FVec Ideal S128x128 .f32)
    (r : Fin 8) (d : Fin 128) :
    hidden x w wq wk wv wo (ix2 r d) = rows x (ix2 r 511) * w (ix2 0 d)
      + Ideal.div (∑ j : Fin 512, pexp x w wq wk (ix2 r j) * rows x (ix2 r j)) (∑ j : Fin 512, pexp x w wq wk (ix2 r j))
        * ∑ i : Fin 128, through w wv i * wo (ix2 i d) := by
  rw [← outvec_at, ← last_at]
  simp only [← pexpx_at]
  pointwise [hidden, k0_pay54]

end Cert.Ker
-- ==== Proof.KerOut.lean ====
/-
  The kernel's routing, its experts and its output, read at an index.
-/
module

public import proofs.«01_k».proof.Proof.KerHidden

@[expose] public section

set_option maxRecDepth 16384

noncomputable section

namespace Cert.Ker

open Idealize.ShloMosaic Cert.KernelIdeal Cert.KernelIdeal.Gen
open Idealize.ShloMosaic.Pointwise

/-- The softmax of eight numbers. -/
def softmax (f : Fin 8 → EReal) (e : Fin 8) : EReal :=
  Ideal.div (Ideal.exp (f e - Finset.univ.fold max (Ideal.ofBits .f32 0xFF800000#32) f))
    (∑ k : Fin 8, Ideal.exp (f k - Finset.univ.fold max (Ideal.ofBits .f32 0xFF800000#32) f))

/-- The largest of eight numbers. -/
def top1 (p : Fin 8 → EReal) : EReal := Finset.univ.fold max (Ideal.ofBits .f32 0xFF800000#32) p

/-- The largest of eight numbers once every entry equal to the largest is set to -1. -/
def top2 (p : Fin 8 → EReal) : EReal :=
  Finset.univ.fold max (Ideal.ofBits .f32 0xFF800000#32) fun e => Scalar.select (Ideal.cmp .oeq (p e) (top1 p)) (Ideal.ofBits .f32 0xBF800000#32) (p e)

/-- The kernel's combine weights of eight probabilities. -/
def weights (p : Fin 8 → EReal) (e : Fin 8) : EReal :=
  Ideal.div (Scalar.select (Ideal.cmp .oge (p e) (top2 p)) (p e) 0) (top1 p + top2 p)

/-- The product of a number and its logistic. -/
def silu (g : EReal) : EReal := g * Ideal.logistic g

/-- What expert `e` makes of a hidden vector. -/
def expert (w1 : FVec Ideal S8x128x256 .f32) (w2 : FVec Ideal S8x256x128 .f32) (h : Fin 128 → EReal) (e : Fin 8) (d : Fin 128) : EReal :=
  ∑ f : Fin 256, silu (∑ i : Fin 128, h i * w1 (ix3 e i f)) * w2 (ix3 e f d)

/-- The experts' results, weighted and added in order. -/
def mix (c : Fin 8 → EReal) (y : Fin 8 → EReal) : EReal :=
  0 + c 0 * y 0 + c 1 * y 1 + c 2 * y 2 + c 3 * y 3 + c 4 * y 4 + c 5 * y 5 + c 6 * y 6 + c 7 * y 7

/-- The forecasts made of a hidden vector and its combine weights. -/
def forecast (w1 : FVec Ideal S8x128x256 .f32) (w2 : FVec Ideal S8x256x128 .f32) (wo : FVec Ideal S128x96 .f32)
    (h : Fin 128 → EReal) (c : Fin 8 → EReal) (t : Fin 96) : EReal :=
  ∑ d : Fin 128, (h d + mix c fun e => expert w1 w2 h e d) * wo (ix2 d t)

/-- The first weights of expert `e`. -/
def cut1 (w1 : FVec Ideal S8x128x256 .f32) (e : Fin 8) : FVec Ideal S1x128x256 .f32 := fun i => w1 (ix3 e (i 1) (i 2))

/-- The second weights of expert `e`. -/
def cut2 (w2 : FVec Ideal S8x256x128 .f32) (e : Fin 8) : FVec Ideal S1x256x128 .f32 := fun i => w2 (ix3 e (i 1) (i 2))

/-- The kernel's combine weights. -/
def comb (x : FVec Ideal S28x512 .f32) (w : FVec Ideal S1x128 .f32) (wq wk wv wo : FVec Ideal S128x128 .f32)
    (wr : FVec Ideal S128x8 .f32) : FVec Ideal S8x8 .f32 :=
  k0_pay55 w (outvec w wv wo) (last x) (pexp x w wq wk) (pexpx x w wq wk) wr

/-- The router's logits of a hidden vector. -/
def logits (wr : FVec Ideal S128x8 .f32) (h : Fin 128 → EReal) (e : Fin 8) : EReal := ∑ d : Fin 128, h d * wr (ix2 d e)

theorem comb_at (x : FVec Ideal S28x512 .f32) (w : FVec Ideal S1x128 .f32) (wq wk wv wo : FVec Ideal S128x128 .f32)
    (wr : FVec Ideal S128x8 .f32) (r : Fin 8) (e : Fin 8) :
    comb x w wq wk wv wo wr (ix2 r e)
      = weights (softmax (logits wr fun d => hidden x w wq wk wv wo (ix2 r d))) e := by
  pointwise [comb, k0_pay55, weights, top1, top2, softmax, logits, hidden]

/-- The kernel's forecasts, as its stages compute them from the hidden vectors and the combine weights. -/
def preds (h : FVec Ideal S8x128 .f32) (c : FVec Ideal S8x8 .f32) (g : FVec Ideal S8x256 .f32)
    (w1 : FVec Ideal S8x128x256 .f32) (w2 : FVec Ideal S8x256x128 .f32) (wo : FVec Ideal S128x96 .f32) : FVec Ideal S8x96 .f32 :=
  k0_pay62 h c
    (k0_pay59 h c (k0_pay58 h c k0_pay56 g (cut2 w2 0) (cut1 w1 1) (cut2 w2 1) (cut1 w1 2) (cut2 w2 2))
      (cut1 w1 3) (cut2 w2 3) (cut1 w1 4) (cut2 w2 4))
    (k0_pay60 h (cut1 w1 5) (cut2 w2 5)) (k0_pay61 c) (cut1 w1 6) (cut2 w2 6) (cut1 w1 7) (cut2 w2 7) wo

theorem preds_at (h : FVec Ideal S8x128 .f32) (c : FVec Ideal S8x8 .f32) (g : FVec Ideal S8x256 .f32)
    (w1 : FVec Ideal S8x128x256 .f32) (w2 : FVec Ideal S8x256x128 .f32) (wo : FVec Ideal S128x96 .f32)
    (hg : ∀ r f, g (ix2 r f) = ∑ i : Fin 128, h (ix2 r i) * w1 (ix3 0 i f)) (r : Fin 8) (t : Fin 96) :
    preds h c g w1 w2 wo (ix2 r t) = forecast w1 w2 wo (fun d => h (ix2 r d)) (fun e => c (ix2 r e)) t := by
  pointwise [preds, k0_pay62, k0_pay59, k0_pay58, k0_pay56, k0_pay60, k0_pay61, cut1, cut2, forecast, mix, expert, silu]
  simp only [hg]

/-- The values before the scale is put back, as the kernel concatenates them. -/
def vals (z : FVec Ideal S8x512 .f32) (p : FVec Ideal S8x96 .f32) : FVec Ideal S4x672 .f32 :=
  k0_pay64 z p (iota .tc S4x8 32 [0] iota_S4x8_d0_w32) (iota .tc S4x8 32 [1] iota_S4x8_d1_w32) k0_pay63

theorem even_at (b : Fin 4) (r : Fin 8) :
    IntOp.cmpi .eq (BitVec.ofNat 32 r.val) (IntOp.muli 2#32 (BitVec.ofNat 32 b.val)) = 1#1 ↔ r = ⟨2 * b.val, by omega⟩ := by
  revert b r
  decide +kernel

theorem odd_at (b : Fin 4) (r : Fin 8) :
    IntOp.cmpi .eq (BitVec.ofNat 32 r.val) (IntOp.addi (IntOp.muli 2#32 (BitVec.ofNat 32 b.val)) 1#32) = 1#1
      ↔ r = ⟨2 * b.val + 1, by omega⟩ := by
  revert b r
  decide +kernel

/-- The value at position `j` of an output row. -/
def valAt (z : FVec Ideal S8x512 .f32) (p : FVec Ideal S8x96 .f32) (b : Fin 4) (j : Fin 672) : EReal :=
  if h : j.val < 64 then p (ix2 ⟨2 * b.val, by omega⟩ ⟨j.val + 32, by omega⟩)
  else if h' : j.val < 576 then z (ix2 ⟨2 * b.val + 1, by omega⟩ ⟨j.val - 64, by omega⟩)
  else p (ix2 ⟨2 * b.val + 1, by omega⟩ ⟨j.val - 576, by omega⟩)

theorem vals_at (z : FVec Ideal S8x512 .f32) (p : FVec Ideal S8x96 .f32) (b : Fin 4) (j : Fin 672) :
    vals z p (ix2 b j) = valAt z p b j := by
  pointwise [vals, k0_pay64, k0_pay63]
  simp only [sitofp_bit]
  unfold valAt
  by_cases h : j.val < 64
  · rw [dif_pos h, dif_pos h, sum_onehot _ _ (even_at b)]
    congr 3
    exact Nat.add_comm _ _
  · rw [dif_neg h, dif_neg h]
    by_cases h' : j.val < 576
    · rw [dif_pos (by omega), dif_pos h', sum_onehot _ _ (odd_at b)]
    · rw [dif_neg (by omega), dif_neg h', sum_onehot _ _ (odd_at b)]
      congr 3

/-- The kernel's output, as its last stages compute it from the means, the deviations and the values. -/
def fin (m s : FVec Ideal S4x7 .f32) (v : FVec Ideal S4x672 .f32) : FVec Ideal S4x672 .f32 :=
  k0_pay1 m s v k0_pay65 (k0_pay73 m k0_pay65 k0_pay66 k0_pay67 (k0_pay69 m)) (k0_pay74 k0_pay65)
    (k0_pay75 s k0_pay65 (k0_pay68 s)) (k0_pay76 m)

theorem fin_at (m s : FVec Ideal S4x7 .f32) (v : FVec Ideal S4x672 .f32) (b : Fin 4) (j : Fin 672) :
    fin m s v (ix2 b j) = v (ix2 b j) * s (ix2 b ⟨j.val % 7, Nat.mod_lt _ (by decide)⟩)
      + m (ix2 b ⟨j.val % 7, Nat.mod_lt _ (by decide)⟩) := by
  pointwise [fin, k0_pay1, k0_pay73, k0_pay66, k0_pay67, k0_pay69, k0_pay74, k0_pay75, k0_pay68, k0_pay76, k0_pay70, k0_pay71, k0_pay72]
  rw [outchan_at]
  congr 1
  · congr 1
    exact pick_seven (fun i => s (ix2 b i)) 0 _ _
  · exact pick_seven (fun i => m (ix2 b i)) 0 _ _

end Cert.Ker
-- ==== Proof.RefOut.lean ====
/-
  The reference's eight experts, its forecast and its result, read at an index.
-/
module

public import proofs.«01_k».proof.Proof.RefRouter
public import proofs.«01_k».proof.Proof.KerOut

@[expose] public section

set_option maxRecDepth 16384

noncomputable section

namespace Cert.Ref

open Idealize.ShloMosaic Idealize.ShloMosaic.Pointwise
open Cert.ReferenceIdeal Cert.ReferenceIdeal.Gen Cert.ReferenceIdeal.Read

theorem slices_in (e : Fin 8) : S8x128x256.Slices ![e.val, 0, 0] S1x128x256 := by
  revert e; decide

theorem slices_out (e : Fin 8) : S8x256x128.Slices ![e.val, 0, 0] S1x256x128 := by
  revert e; decide

theorem slices_col (e : Fin 8) : S14336x8.Slices ![0, e.val] S14336x1 := by
  revert e; decide

/-- The tokens' entries into one expert. -/
def gate (h : FVec Ideal S14336x128 .f32) (w1 : FVec Ideal S8x128x256 .f32) (e : Fin 8) : FVec Ideal S14336x256 .f32 :=
  Host.dotGeneral dot_S14336x128_S128x256_S14336x256_1_0_0_1_n_n none h
    (shapeCast S128x256 (extractStridedSlice S1x128x256 ![e.val, 0, 0] w1 (slices_in e)) shapeCasts_S1x128x256_S128x256)

/-- One, everywhere. -/
def ones : FVec Ideal S14336x256 .f32 := broadcastInDim S14336x256 ![] bcast_S_S14336x256 (constant S_ .f32 0x3F800000#32)

/-- One expert's outputs times their weights. -/
def term (h : FVec Ideal S14336x128 .f32) (c : FVec Ideal S14336x8 .f32) (w1 : FVec Ideal S8x128x256 .f32)
    (w2 : FVec Ideal S8x256x128 .f32) (e : Fin 8) : FVec Ideal S14336x128 .f32 :=
  mulf (broadcastInDim S14336x128 ![0, 1] bcast_S14336x1_S14336x128_0_1 (extractStridedSlice S14336x1 ![0, e.val] c (slices_col e)))
    (Host.dotGeneral dot_S14336x256_S256x128_S14336x128_1_0_0_1_n_n none
      (mulf (gate h w1 e) (Host.divf ones (addf ones (Host.exp (Host.negf (gate h w1 e))))))
      (shapeCast S256x128 (extractStridedSlice S1x256x128 ![e.val, 0, 0] w2 (slices_out e)) shapeCasts_S1x256x128_S256x128))

theorem gate_at (h : FVec Ideal S14336x128 .f32) (w1 : FVec Ideal S8x128x256 .f32) (e : Fin 8) (r : Fin 14336) (f : Fin 256) :
    gate h w1 e (ix2 r f) = ∑ i : Fin 128, h (ix2 r i) * w1 (ix3 e i f) := by
  pointwise [gate]

theorem ones_at (r : Fin 14336) (f : Fin 256) : ones (ix2 r f) = 1 := by
  pointwise [ones]

theorem term_at (h : FVec Ideal S14336x128 .f32) (c : FVec Ideal S14336x8 .f32) (w1 : FVec Ideal S8x128x256 .f32)
    (w2 : FVec Ideal S8x256x128 .f32) (e : Fin 8) (r : Fin 14336) (d : Fin 128) :
    term h c w1 w2 e (ix2 r d) = c (ix2 r e) * Ker.expert w1 w2 (fun i => h (ix2 r i)) e d := by
  pointwise [term]
  simp only [ones_at, gate_at]
  rfl

variable (x : FVec Ideal S4x512x7 .f32) (w : FVec Ideal S1x128 .f32) (wq wk wv wo : FVec Ideal S128x128 .f32)
  (wr : FVec Ideal S128x8 .f32) (w1 : FVec Ideal S8x128x256 .f32) (w2 : FVec Ideal S8x256x128 .f32) (wout : FVec Ideal S128x96 .f32)

/-- Eight arrays added in order. -/
def total (z : FVec Ideal S14336x128 .f32) (u : Fin 8 → FVec Ideal S14336x128 .f32) : FVec Ideal S14336x128 .f32 :=
  addf (addf (addf (addf (addf (addf (addf (addf z (u 0)) (u 1)) (u 2)) (u 3)) (u 4)) (u 5)) (u 6)) (u 7)

theorem total_at (z : FVec Ideal S14336x128 .f32) (u : Fin 8 → FVec Ideal S14336x128 .f32) (i : S14336x128.Idx) :
    total z u i = z i + u 0 i + u 1 i + u 2 i + u 3 i + u 4 i + u 5 i + u 6 i + u 7 i := rfl

theorem v168_eq : val_main_v168 (F := Ideal) x w wq wk wv wo wr w1 w2
    = total (val_main_v80 (F := Ideal))
        (term (val_main_v45 (F := Ideal) x w wq wk wv wo) (val_main_v79 (F := Ideal) x w wq wk wv wo wr) w1 w2) := rfl

/-- The weights at the last token of series `n`. -/
abbrev wts (n : Fin 28) : Fin 8 → EReal := weights (prob x w wq wk wv wo wr n)

/-- The forecast of series `n`. -/
def fore (n : Fin 28) (t : Fin 96) : EReal :=
  Ker.forecast w1 w2 wout (hidden (ser x n) w wq wk wv wo) (wts x w wq wk wv wo wr n) t

theorem v168_at (n : Fin 28) (d : Fin 128) :
    val_main_v168 (F := Ideal) x w wq wk wv wo wr w1 w2 (ix2 (row n) d)
      = Ker.mix (wts x w wq wk wv wo wr n) fun e => Ker.expert w1 w2 (hidden (ser x n) w wq wk wv wo) e d := by
  have e : (fun i => val_main_v45 (F := Ideal) x w wq wk wv wo (ix2 (row n) i)) = hidden (ser x n) w wq wk wv wo :=
    funext fun i => v45_at x w wq wk wv wo n i
  have z : val_main_v80 (F := Ideal) (ix2 (row n) d) = 0 := by
    pointwise [val_main_v80, val_main_cst_18]
  rw [v168_eq, total_at, z]
  simp only [term_at, v79_at, e]
  unfold Ker.mix
  with_reducible rfl

theorem v173_at (n : Fin 28) (t : Fin 96) :
    val_main_v173 (F := Ideal) x w wq wk wv wo wr w1 w2 wout (ix2 n t) = fore x w wq wk wv wo wr w1 w2 wout n t := by
  pointwise [val_main_v173, val_main_v172, val_main_v171, val_main_v170, val_main_v169]
  unfold fore Ker.forecast
  refine Finset.sum_congr rfl fun d _ => ?_
  rw [show (⟨n.val * 512 + 511, by omega⟩ : Fin 14336) = row n from Fin.ext (by show n.val * 512 + 511 = 512 * n.val + 511; omega),
    v45_at, v168_at]

/-- The number at flat position `j` of batch entry `b`'s last 96 tokens, before it is scaled back. -/
def outAt (b : Fin 4) (j : Fin 672) : EReal :=
  if h : j.val < 64 then fore x w wq wk wv wo wr w1 w2 wout ⟨7 * b.val + 5, by omega⟩ ⟨j.val + 32, by omega⟩
  else if h' : j.val < 576 then ser x ⟨7 * b.val + 6, by omega⟩ ⟨j.val - 64, by omega⟩
  else fore x w wq wk wv wo wr w1 w2 wout ⟨7 * b.val + 6, by omega⟩ ⟨j.val - 576, by omega⟩

/-- The flat position of a token and a channel. -/
abbrev flat (t : Fin 96) (c : Fin 7) : Fin 672 := ⟨7 * t.val + c.val, by omega⟩

theorem fin_pair {α : Type} {n m : Nat} (f : Fin n → Fin m → α) (a a' : Fin n) (b b' : Fin m) (ha : a.val = a'.val) (hb : b.val = b'.val) :
    f a b = f a' b' := by rw [Fin.ext ha, Fin.ext hb]

theorem v12_ser (n : Fin 28) (k : Fin 512) : val_main_v12 (F := Ideal) x (ix2 n k) = ser x n k := v12_at x n k

theorem v176_at (b : Fin 4) (t : Fin 96) (c : Fin 7) :
    val_main_v176 (F := Ideal) x w wq wk wv wo wr w1 w2 wout (ix3 b t c) = outAt x w wq wk wv wo wr w1 w2 wout b (flat t c) := by
  pointwise [val_main_v176, val_main_v175, val_main_v174]
  simp only [v173_at, v12_ser]
  unfold outAt
  have hb := b.isLt
  have ht := t.isLt
  have hc := c.isLt
  by_cases h : (flat t c).val < 64
  · have h1 : (b.val * 4256 + (512 + t.val) * 7 + c.val) / 608 = 7 * b.val + 5 := by dsimp only at h; omega
    have h2 : (b.val * 4256 + (512 + t.val) * 7 + c.val) % 608 = 7 * t.val + c.val + 544 := by dsimp only at h; omega
    rw [dif_pos h, dif_neg (by dsimp only at h; omega)]
    exact fin_pair (fore x w wq wk wv wo wr w1 w2 wout) _ _ _ _ h1 (by dsimp only at h2 ⊢; omega)
  · have h1 : (b.val * 4256 + (512 + t.val) * 7 + c.val) / 608 = 7 * b.val + 6 := by dsimp only at h; omega
    have h2 : (b.val * 4256 + (512 + t.val) * 7 + c.val) % 608 = 7 * t.val + c.val - 64 := by dsimp only at h; omega
    rw [dif_neg h]
    by_cases h' : (flat t c).val < 576
    · rw [dif_pos h', dif_pos (by dsimp only at h'; omega)]
      exact fin_pair (ser x) _ _ _ _ h1 (by dsimp only at h2 ⊢; omega)
    · rw [dif_neg h', dif_neg (by dsimp only at h'; omega)]
      exact fin_pair (fore x w wq wk wv wo wr w1 w2 wout) _ _ _ _ h1 (by dsimp only at h2 ⊢; omega)

/-- The reference's result. -/
theorem v184_at (b : Fin 4) (t : Fin 96) (c : Fin 7) :
    val_main_v184 (F := Ideal) x w wq wk wv wo wr w1 w2 wout (ix3 b t c)
      = outAt x w wq wk wv wo wr w1 w2 wout b (flat t c) * sdev x b c + mean x b c := by
  pointwise [val_main_v184, val_main_v183, val_main_v182, val_main_v181, val_main_v180, val_main_v179, val_main_v178, val_main_v177]
  rw [v176_at, v9_at, v3_at]

end Cert.Ref
-- ==== Proof.Weights.lean ====
/-
  The kernel's weights of the experts are the reference's, where the three greatest probabilities are distinct.
-/
module

public import proofs.«01_k».proof.Proof.RefOut

@[expose] public section

set_option maxRecDepth 16384

noncomputable section

namespace Cert.Same

open Idealize.ShloMosaic Idealize.ShloMosaic.Pointwise

theorem ninf : Ideal.ofBits .f32 0xFF800000#32 = ⊥ := by simp [Ideal.ofBits, Ideal.ieee]

theorem neg_one : Ideal.ofBits .f32 0xBF800000#32 = ((-1 : ℝ) : EReal) := by
  simp [Ideal.ofBits, Ideal.ieee, -EReal.coe_mul]
  norm_num

theorem exp_nonneg (x : EReal) : 0 ≤ Ideal.exp x := by
  induction x with
  | bot => simp
  | top => simp
  | coe r => rw [Ideal.exp_coe]; exact_mod_cast (Real.exp_pos r).le

/-- A division of numbers that are not negative, by one that is not zero, is not negative. -/
theorem div_nonneg (x y : EReal) (hx : 0 ≤ x) (hy : 0 ≤ y) (h : y ≠ 0) : 0 ≤ Ideal.div x y := by
  rw [Ideal.div, if_neg h]
  exact mul_nonneg hx (EReal.inv_nonneg_of_nonneg hy)

/-- The reference's softmax subtracts the greatest logit once more compared with minus infinity. -/
theorem softmax_eq (f : Fin 8 → EReal) : Ref.softmax f = Ker.softmax f := by
  funext e
  unfold Ref.softmax Ker.softmax Ref.top
  rw [ninf, max_eq_right bot_le]

/-- Probabilities that are not all the same are not negative. -/
theorem softmax_nonneg (f : Fin 8 → EReal) (a b : Fin 8) (h : Ker.softmax f a ≠ Ker.softmax f b) (e : Fin 8) : 0 ≤ Ker.softmax f e := by
  set M := Finset.univ.fold max (Ideal.ofBits .f32 0xFF800000#32) f with hM
  have hs : (∑ k : Fin 8, Ideal.exp (f k - M)) ≠ 0 := by
    intro h0
    have hz : ∀ k, Ideal.exp (f k - M) = 0 := fun k =>
      (Finset.sum_eq_zero_iff_of_nonneg fun k _ => exp_nonneg _).1 h0 k (Finset.mem_univ k)
    apply h
    unfold Ker.softmax
    rw [← hM, hz a, hz b]
  exact div_nonneg _ _ (exp_nonneg _) (Finset.sum_nonneg fun k _ => exp_nonneg _) hs

/-- The maximum of finitely many numbers is one that is among them and that none exceeds. -/
theorem fold_max_eq {n : Nat} (f : Fin n → EReal) (a : Fin n) (h : ∀ e, f e ≤ f a) : Finset.univ.fold max (Ideal.ofBits .f32 0xFF800000#32) f = f a := by
  rw [ninf]
  refine le_antisymm ?_ ?_
  · rw [Finset.fold_max_le]
    exact ⟨bot_le, fun e _ => h e⟩
  · rw [Finset.le_fold_max]
    exact Or.inr ⟨a, Finset.mem_univ a, le_rfl⟩

section
variable (p : Fin 8 → EReal)

theorem le_of_order (i : Fin 8) (j : Fin 8) (h : i ≤ j) : p (Top.order p j) ≤ p (Top.order p i) := by
  rcases h.lt_or_eq with h | rfl
  · exact Top.order_le p i j h
  · exact le_rfl

theorem top1_eq : Ker.top1 p = p (Top.order p 0) := by
  refine fold_max_eq p _ fun e => ?_
  obtain ⟨j, rfl⟩ := Top.order_surjective p e
  exact le_of_order p 0 j (Fin.zero_le j)

variable (h01 : p (Top.order p 1) < p (Top.order p 0)) (h0 : ∀ e, 0 ≤ p e)
include h01 h0

theorem top2_eq : Ker.top2 p = p (Top.order p 1) := by
  have hm : ∀ e, Scalar.select (Ideal.cmp .oeq (p e) (Ker.top1 p)) (Ideal.ofBits .f32 0xBF800000#32) (p e)
      = if p e = p (Top.order p 0) then ((-1 : ℝ) : EReal) else p e := by
    intro e
    rw [top1_eq, neg_one]
    simp only [pointwise]
  have h1 : (if p (Top.order p 1) = p (Top.order p 0) then ((-1 : ℝ) : EReal) else p (Top.order p 1)) = p (Top.order p 1) := if_neg h01.ne
  unfold Ker.top2
  simp only [hm]
  refine (fold_max_eq _ (Top.order p 1) fun e => ?_).trans h1
  rw [h1]
  split
  · exact le_trans (by exact_mod_cast (by norm_num : (-1 : ℝ) ≤ 0)) (h0 _)
  · rename_i hne
    obtain ⟨j, rfl⟩ := Top.order_surjective p e
    refine le_of_order p 1 j ?_
    rcases Fin.eq_zero_or_eq_succ j with rfl | ⟨k, rfl⟩
    · exact absurd rfl hne
    · exact Fin.mk_le_mk.2 (by simp)

/-- The weights agree. -/
theorem weights_eq (h12 : p (Top.order p 2) < p (Top.order p 1)) (e : Fin 8) : Ker.weights p e = Ref.weights p e := by
  unfold Ker.weights Ref.weights
  rw [top1_eq, top2_eq p h01 h0, Ideal.ofBits_zero_f32]
  have hc : Scalar.select (Ideal.cmp .oge (p e) (p (Top.order p 1))) (p e) 0 = if p (Top.order p 1) ≤ p e then p e else 0 := by
    simp only [pointwise]
  rw [hc]
  by_cases e0 : e = Top.order p 0
  · rw [if_pos e0, e0, if_pos h01.le]
  rw [if_neg e0]
  by_cases e1 : e = Top.order p 1
  · rw [if_pos e1, e1, if_pos le_rfl]
  rw [if_neg e1]
  obtain ⟨j, rfl⟩ := Top.order_surjective p e
  have hj : (2 : Fin 8) ≤ j := by
    have a0 : j ≠ 0 := fun h => e0 (by rw [h])
    have a1 : j ≠ 1 := fun h => e1 (by rw [h])
    clear hc e0 e1
    revert j; decide
  have hlt : p (Top.order p j) < p (Top.order p 1) := lt_of_le_of_lt (le_of_order p 2 j hj) h12
  rw [if_neg (not_le.2 hlt), Ideal.div, if_neg, zero_mul]
  exact (lt_of_lt_of_le (lt_of_le_of_lt (h0 _) h01) (le_add_of_nonneg_right (h0 _))).ne'
end

/-- The weights of a softmax agree. -/
theorem softmax_weights (f : Fin 8 → EReal)
    (h01 : Ref.softmax f (Top.order (Ref.softmax f) 1) < Ref.softmax f (Top.order (Ref.softmax f) 0))
    (h12 : Ref.softmax f (Top.order (Ref.softmax f) 2) < Ref.softmax f (Top.order (Ref.softmax f) 1)) :
    Ker.weights (Ker.softmax f) = Ref.weights (Ref.softmax f) := by
  rw [softmax_eq] at *
  exact funext fun e => weights_eq _ h01 (softmax_nonneg f _ _ h01.ne) h12 e

end Cert.Same
-- ==== Proof.SameStats.lean ====
/-
  Of real entries, the kernel's statistics and normalized rows are the reference's.
-/
module

public import proofs.«01_k».proof.Proof.Weights

@[expose] public section

set_option maxRecDepth 16384

noncomputable section

namespace Cert.Same

open Idealize.ShloMosaic Idealize.ShloMosaic.Pointwise
open Cert.ReferenceIdeal

/-- A sum of real numbers is real. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s h ih => rw [Finset.sum_insert h, Finset.sum_insert h, ih, EReal.coe_add]

theorem lit_512 : Ideal.ofBits .f32 0x44000000#32 = ((512 : ℝ) : EReal) := by
  simp [Ideal.ofBits, Ideal.ieee, -EReal.coe_mul]
  norm_num

theorem lit_inv_512 : Ideal.ofBits .f32 0x3B000000#32 = ((1 / 512 : ℝ) : EReal) := by
  simp [Ideal.ofBits, Ideal.ieee, -EReal.coe_mul]
  norm_num

/-- What is added to the variances. -/
def eps : ℝ := 10995116 / 2 ^ 40

theorem lit_eps : Ideal.ofBits .f32 0x3727C5AC#32 = ((eps : ℝ) : EReal) := by
  unfold eps
  simp [Ideal.ofBits, Ideal.ieee, -EReal.coe_mul]
  norm_num

theorem eps_pos : 0 < eps := by unfold eps; norm_num

/-- A quotient of real numbers is real. -/
theorem div_real (a b : ℝ) (h : b ≠ 0) : Ideal.div (a : EReal) (b : EReal) = ((a / b : ℝ) : EReal) := by
  rw [Ideal.div_coe h, ← EReal.coe_mul, mul_one_div]

theorem sqrt_real (a : ℝ) (h : 0 ≤ a) : Ideal.sqrt (a : EReal) = ((Real.sqrt a : ℝ) : EReal) := by
  rw [Ideal.sqrt_coe, if_neg (not_lt.2 h)]

/-- The mean of 512 real numbers. -/
def rmean (f : Fin 512 → ℝ) : ℝ := (∑ l, f l) / 512

/-- Their variance. -/
def rvar (f : Fin 512 → ℝ) : ℝ := (∑ l, (f l - rmean f) * (f l - rmean f)) / 512

/-- Their standard deviation. -/
def rsd (f : Fin 512 → ℝ) : ℝ := Real.sqrt (rvar f + eps)

theorem rvar_nonneg (f : Fin 512 → ℝ) : 0 ≤ rvar f :=
  _root_.div_nonneg (Finset.sum_nonneg fun l _ => mul_self_nonneg _) (by norm_num)

theorem rsd_pos (f : Fin 512 → ℝ) : 0 < rsd f := Real.sqrt_pos.2 (add_pos_of_nonneg_of_pos (rvar_nonneg f) eps_pos)

/-- The centred numbers add to zero. -/
theorem sum_centred (f : Fin 512 → ℝ) : ∑ l, (f l - rmean f) = 0 := by
  rw [Finset.sum_sub_distrib, Finset.sum_const, Finset.card_univ, Fintype.card_fin, nsmul_eq_mul, rmean]
  push_cast
  ring

/-- The mean of the squares less the square of the mean is the variance. -/
theorem squares (f : Fin 512 → ℝ) : (∑ l, f l * f l) * (1 / 512) - rmean f * rmean f = rvar f := by
  have h : ∑ l, (f l - rmean f) * (f l - rmean f) = (∑ l, f l * f l) - 2 * rmean f * (∑ l, f l) + 512 * (rmean f * rmean f) := by
    rw [Finset.mul_sum, ← Finset.sum_sub_distrib]
    have : (512 : ℝ) * (rmean f * rmean f) = ∑ _l : Fin 512, rmean f * rmean f := by
      rw [Finset.sum_const, Finset.card_univ, Fintype.card_fin, nsmul_eq_mul]; push_cast; ring
    rw [this, ← Finset.sum_add_distrib]
    exact Finset.sum_congr rfl fun l _ => by ring
  have h' : ∑ l, f l = 512 * rmean f := by rw [rmean]; ring
  rw [rvar, h, h']
  ring

section
variable (x : FVec Ideal S4x512x7 .f32) (y : S4x512x7.Idx → ℝ) (hx : ∀ i, x i = ((y i : ℝ) : EReal))

/-- The time steps of a batch entry's channel. -/
abbrev steps (b : Fin 4) (c : Fin 7) (l : Fin 512) : ℝ := y (ix3 b l c)

include hx

theorem ref_mean (b : Fin 4) (c : Fin 7) : Ref.mean x b c = ((rmean (steps y b c) : ℝ) : EReal) := by
  unfold Ref.mean
  simp only [hx]
  rw [coe_sum, lit_512, div_real _ _ (by norm_num)]
  rfl

theorem ref_cen (b : Fin 4) (l : Fin 512) (c : Fin 7) : Ref.cen x b l c = ((steps y b c l - rmean (steps y b c) : ℝ) : EReal) := by
  unfold Ref.cen
  rw [ref_mean x y hx, hx, ← EReal.coe_sub]

theorem ref_dev (b : Fin 4) (l : Fin 512) (c : Fin 7) : Ref.dev x b l c = ((steps y b c l - rmean (steps y b c) : ℝ) : EReal) := by
  unfold Ref.dev
  simp only [ref_cen x y hx]
  rw [coe_sum, sum_centred, lit_512, div_real _ _ (by norm_num), ← EReal.coe_sub, zero_div, sub_zero]

omit hx in
theorem count_eq : Ref.count = ((512 : ℝ) : EReal) := by
  unfold Ref.count
  rw [lit_512]
  have : FloatOps.sitofp (F := Ideal) .f32 (0#32 : BitVec 32) = ((0 : ℝ) : EReal) := by
    show (((0#32 : BitVec 32).toInt : ℝ) : EReal) = _
    simp
  rw [this, ← EReal.coe_sub, sub_zero]

theorem ref_sdev (b : Fin 4) (c : Fin 7) : Ref.sdev x b c = ((rsd (steps y b c) : ℝ) : EReal) := by
  unfold Ref.sdev
  rw [count_eq, if_pos (by exact_mod_cast (by norm_num : (0 : ℝ) < 512))]
  simp only [ref_dev x y hx, ← EReal.coe_mul]
  rw [coe_sum, lit_eps, div_real _ _ (by norm_num), ← EReal.coe_add]
  exact sqrt_real _ (add_pos_of_nonneg_of_pos (rvar_nonneg (steps y b c)) eps_pos).le

theorem ref_norm (b : Fin 4) (l : Fin 512) (c : Fin 7) :
    Ref.norm x b l c = (((steps y b c l - rmean (steps y b c)) / rsd (steps y b c) : ℝ) : EReal) := by
  unfold Ref.norm
  rw [ref_cen x y hx, ref_sdev x y hx, div_real _ _ (rsd_pos _).ne']

omit hx in
/-- The kernel's rows of raw entries. -/
def raw : FVec Ideal S28x512 .f32 := shapeCast (s := S4x512x7) S28x512 x Cert.KernelIdeal.Gen.shapeCasts_S4x512x7_S28x512

omit hx in
theorem raw_at (n : Fin 28) (k : Fin 512) : raw x (ix2 n k) = x (ix3 ⟨(n.val * 512 + k.val) / 3584, by omega⟩
      ⟨(n.val * 512 + k.val) / 7 % 512, by omega⟩ ⟨(n.val * 512 + k.val) % 7, by omega⟩) := by
  pointwise [raw]
  exact congrArg (fun b => x (ix3 b _ _)) (Fin.ext (by dsimp only; omega))

omit hx in
theorem raw_step (b : Fin 4) (l : Fin 512) (c : Fin 7) : raw x (Ker.at_ b l c) = x (ix3 b l c) := by
  rw [Ker.at_, raw_at]
  have hb := b.isLt
  have hl := l.isLt
  have hc := c.isLt
  have e1 : ((7 * b.val + (7 * l.val + c.val) / 512) * 512 + (7 * l.val + c.val) % 512) = 3584 * b.val + (7 * l.val + c.val) := by omega
  refine congrArg x ?_
  refine congr (congr (congrArg ix3 (Fin.ext ?_)) (Fin.ext ?_)) (Fin.ext ?_)
  · dsimp only; rw [e1]; omega
  · dsimp only; rw [e1]; omega
  · dsimp only; rw [e1]; omega

theorem ker_mean (b : Fin 4) (c : Fin 7) : Ker.mean (raw x) (ix2 b c) = ((rmean (steps y b c) : ℝ) : EReal) := by
  rw [Ker.mean_at]
  simp only [raw_step, hx]
  rw [coe_sum, lit_inv_512, ← EReal.coe_mul, mul_one_div]
  rfl

theorem ker_sdev (b : Fin 4) (c : Fin 7) : Ker.sdev (raw x) (ix2 b c) = ((rsd (steps y b c) : ℝ) : EReal) := by
  rw [Ker.sdev_at, ker_mean x y hx]
  simp only [raw_step, hx, ← EReal.coe_mul]
  rw [coe_sum, lit_inv_512, lit_eps, ← EReal.coe_mul, ← EReal.coe_sub, squares (steps y b c), ← EReal.coe_add]
  exact sqrt_real _ (add_pos_of_nonneg_of_pos (rvar_nonneg (steps y b c)) eps_pos).le

omit hx in
/-- The entries of a normalized series. -/
def series (n : Fin 28) (k : Fin 512) : ℝ :=
  let b : Fin 4 := ⟨(n.val * 512 + k.val) / 3584, by omega⟩
  let l : Fin 512 := ⟨(n.val * 512 + k.val) / 7 % 512, by omega⟩
  let c : Fin 7 := ⟨(n.val * 512 + k.val) % 7, by omega⟩
  (steps y b c l - rmean (steps y b c)) / rsd (steps y b c)

theorem ref_ser (n : Fin 28) (k : Fin 512) : Ref.ser x n k = ((series y n k : ℝ) : EReal) := ref_norm x y hx _ _ _

theorem ker_rows (r : Fin 8) (k : Fin 512) : Ker.rows (raw x) (ix2 r k) = ((series y (Ker.ser r) k : ℝ) : EReal) := by
  have hr := r.isLt
  have hk := k.isLt
  have e1 : Ker.ent r = (⟨((Ker.ser r).val * 512 + k.val) / 3584, by omega⟩ : Fin 4) := Fin.ext (by dsimp only; omega)
  have e2 : Ker.chn r k = (⟨((Ker.ser r).val * 512 + k.val) % 7, by omega⟩ : Fin 7) := Fin.ext (by dsimp only; omega)
  rw [Ker.rows_at, Ker.rsdev_at, ker_mean x y hx, ker_sdev x y hx, raw_at, hx, Ideal.ofBits_one_f32, e1, e2]
  rw [show (1 : EReal) = ((1 : ℝ) : EReal) from rfl, div_real _ _ (rsd_pos _).ne', ← EReal.coe_sub, ← EReal.coe_mul, mul_one_div]
  rfl
end

end Cert.Same
-- ==== Proof.SameHidden.lean ====
/-
  Of real entries and weights, the kernel's hidden vectors are the reference's.
-/
module

public import proofs.«01_k».proof.Proof.SameStats

@[expose] public section

set_option maxRecDepth 16384

noncomputable section

namespace Cert.Same

open Idealize.ShloMosaic Idealize.ShloMosaic.Pointwise
open Cert.ReferenceIdeal

/-- The scores' scale, 1/√128. -/
def inv : ℝ := (Real.sqrt 128)⁻¹

/-- The kernel's named constant is 1/√128. -/
theorem ker_inv : Named.named (F := Ideal) Cert.KernelIdeal.κ "inv_sqrt_d" (φ := .f32) 0x3DB504F3#32 = ((inv : ℝ) : EReal) :=
  IdealRules.named_const.ideal_named_scalar _ _ _ _ rfl

theorem lit_128 : Ideal.ofBits .f32 0x43000000#32 = ((128 : ℝ) : EReal) := by
  simp [Ideal.ofBits, Ideal.ieee, -EReal.coe_mul]
  norm_num

/-- The reference's quotient of 1 by the root of 128 is 1/√128. -/
theorem ref_inv : Ideal.div 1 (Ideal.sqrt (Ideal.ofBits .f32 0x43000000#32)) = ((inv : ℝ) : EReal) := by
  rw [show (1 : EReal) = ((1 : ℝ) : EReal) from rfl, lit_128, sqrt_real _ (by norm_num), div_real _ _ (Real.sqrt_pos.2 (by norm_num)).ne', one_div]
  rfl

/-- The greatest of 512 real numbers. -/
def rpeak (s : Fin 512 → ℝ) : ℝ := s (Classical.choose (Finite.exists_max s))

theorem fold_real (s : Fin 512 → ℝ) :
    Finset.univ.fold max (Ideal.ofBits .f32 0xFF800000#32) (fun k => ((s k : ℝ) : EReal)) = ((rpeak s : ℝ) : EReal) :=
  fold_max_eq (fun k => ((s k : ℝ) : EReal)) _ fun e => by exact_mod_cast Classical.choose_spec (Finite.exists_max s) e

section
variable (w : FVec Ideal S1x128 .f32) (wq wk wv wo : FVec Ideal S128x128 .f32)
  (rw' : S1x128.Idx → ℝ) (rq rk rv ro : S128x128.Idx → ℝ)

/-- The embedding vector through a weight matrix. -/
def rthru (a : S128x128.Idx → ℝ) (d : Fin 128) : ℝ := ∑ i : Fin 128, rw' (ix2 0 i) * a (ix2 i d)

/-- The scale of the scores. -/
def rscale : ℝ := (∑ d : Fin 128, rthru rw' rq d * rthru rw' rk d) * inv

/-- A score of the last token of a series. -/
def rscore (Z : Fin 512 → ℝ) (k : Fin 512) : ℝ := rscale rw' rq rk * Z 511 * Z k

/-- An exponential of a score less the greatest. -/
def rexp (Z : Fin 512 → ℝ) (k : Fin 512) : ℝ := Real.exp (rscore rw' rq rk Z k - rpeak (rscore rw' rq rk Z))

theorem sum_rexp_pos (Z : Fin 512 → ℝ) : 0 < ∑ k, rexp rw' rq rk Z k :=
  Finset.sum_pos (fun k _ => Real.exp_pos _) ⟨0, Finset.mem_univ 0⟩

variable (hw : ∀ i, w i = ((rw' i : ℝ) : EReal)) (hq : ∀ i, wq i = ((rq i : ℝ) : EReal)) (hk : ∀ i, wk i = ((rk i : ℝ) : EReal))
  (hv : ∀ i, wv i = ((rv i : ℝ) : EReal)) (ho : ∀ i, wo i = ((ro i : ℝ) : EReal))

include hw

theorem thru_real (a : FVec Ideal S128x128 .f32) (ra : S128x128.Idx → ℝ) (ha : ∀ i, a i = ((ra i : ℝ) : EReal)) (d : Fin 128) :
    Ker.through w a d = ((rthru rw' ra d : ℝ) : EReal) := by
  unfold Ker.through rthru
  simp only [hw, ha, ← EReal.coe_mul]
  rw [coe_sum]

theorem proj_real (a : FVec Ideal S128x128 .f32) (ra : S128x128.Idx → ℝ) (ha : ∀ i, a i = ((ra i : ℝ) : EReal)) (X : ℝ) (d : Fin 128) :
    Ref.proj (X : EReal) w a d = ((X * rthru rw' ra d : ℝ) : EReal) := by
  unfold Ref.proj rthru
  simp only [hw, ha, ← EReal.coe_mul]
  rw [coe_sum, Finset.mul_sum]
  exact congrArg _ (Finset.sum_congr rfl fun i _ => mul_assoc _ _ _)

include hq hk

theorem scale_real : Ker.scale w wq wk = ((rscale rw' rq rk : ℝ) : EReal) := by
  unfold Ker.scale rscale
  simp only [thru_real w rw' hw wq rq hq, thru_real w rw' hw wk rk hk, ← EReal.coe_mul]
  rw [coe_sum, ker_inv, ← EReal.coe_mul]

section
variable (X : Fin 512 → EReal) (Z : Fin 512 → ℝ) (hX : ∀ k, X k = ((Z k : ℝ) : EReal))
include hX

theorem ref_score (k : Fin 512) : Ref.score X w wq wk k = ((rscore rw' rq rk Z k : ℝ) : EReal) := by
  unfold Ref.score rscore rscale
  simp only [hX, proj_real w rw' hw wq rq hq, proj_real w rw' hw wk rk hk, ← EReal.coe_mul]
  rw [coe_sum, ref_inv, ← EReal.coe_mul]
  refine congrArg _ ?_
  rw [Finset.sum_mul, Finset.sum_mul, Finset.sum_mul, Finset.sum_mul]
  exact Finset.sum_congr rfl fun d _ => by ring

theorem ref_pexp (k : Fin 512) : Ref.pexp X w wq wk k = ((rexp rw' rq rk Z k : ℝ) : EReal) := by
  unfold Ref.pexp Ref.peak
  rw [show Ref.score X w wq wk = fun k => ((rscore rw' rq rk Z k : ℝ) : EReal) from
    funext (ref_score w wq wk rw' rq rk hw hq hk X Z hX), fold_real, ninf, max_eq_right bot_le, ← EReal.coe_sub, Ideal.exp_coe]
  rfl

include hv ho

/-- The hidden vector of a series' last token. -/
theorem ref_hidden (d : Fin 128) : Ref.hidden X w wq wk wv wo d
    = ((Z 511 * rw' (ix2 0 d) + (∑ k, rexp rw' rq rk Z k * Z k) / (∑ k, rexp rw' rq rk Z k) * ∑ i : Fin 128, rthru rw' rv i * ro (ix2 i d) : ℝ) : EReal) := by
  unfold Ref.hidden
  simp only [ref_pexp w wq wk rw' rq rk hw hq hk X Z hX]
  rw [coe_sum]
  simp only [div_real _ _ (sum_rexp_pos rw' rq rk Z).ne']
  simp only [hX, hw, ho, proj_real w rw' hw wv rv hv, ← EReal.coe_mul, coe_sum]
  rw [← EReal.coe_add]
  refine congrArg _ (congrArg (HAdd.hAdd _) ?_)
  rw [Finset.mul_sum, Finset.sum_div]
  refine Finset.sum_congr rfl fun i _ => ?_
  rw [Finset.sum_mul, ← mul_assoc, Finset.sum_mul, Finset.sum_mul]
  exact Finset.sum_congr rfl fun k _ => by ring
end

section
variable (x0 : FVec Ideal Cert.KernelIdeal.S28x512 .f32) (r : Fin 8) (Z : Fin 512 → ℝ)
  (hX : ∀ k, Ker.rows x0 (ix2 r k) = ((Z k : ℝ) : EReal))
include hX

theorem ker_score (k : Fin 512) : Ker.score x0 w wq wk r k = ((rscore rw' rq rk Z k : ℝ) : EReal) := by
  unfold Ker.score rscore
  rw [scale_real w wq wk rw' rq rk hw hq hk, hX, hX, ← EReal.coe_mul, ← EReal.coe_mul]

theorem ker_pexp (k : Fin 512) : Ker.pexp x0 w wq wk (ix2 r k) = ((rexp rw' rq rk Z k : ℝ) : EReal) := by
  rw [Ker.pexp_at, show Ker.score x0 w wq wk r = fun k => ((rscore rw' rq rk Z k : ℝ) : EReal) from
    funext (ker_score w wq wk rw' rq rk hw hq hk x0 r Z hX), fold_real, ← EReal.coe_sub, Ideal.exp_coe]
  rfl

include hv ho

theorem ker_hidden (d : Fin 128) : Ker.hidden x0 w wq wk wv wo (ix2 r d)
    = ((Z 511 * rw' (ix2 0 d) + (∑ k, rexp rw' rq rk Z k * Z k) / (∑ k, rexp rw' rq rk Z k) * ∑ i : Fin 128, rthru rw' rv i * ro (ix2 i d) : ℝ) : EReal) := by
  rw [Ker.hidden_at]
  simp only [ker_pexp w wq wk rw' rq rk hw hq hk x0 r Z hX, hX, hw, ho, thru_real w rw' hw wv rv hv, ← EReal.coe_mul, coe_sum]
  rw [div_real _ _ (sum_rexp_pos rw' rq rk Z).ne', ← EReal.coe_mul, ← EReal.coe_add]
end
end

end Cert.Same
-- ==== Proof.Predicate.lean ====
/-
  What the precondition says: six arguments are finite, and at the last tokens of the two last series of each batch
  entry the three greatest probabilities of the router are distinct.
-/
module

public import proofs.«01_k».proof.Proof.Gen.Pre_finite_untied
public import proofs.«01_k».proof.Proof.RefRouter
public import Idealize.ShloMosaic.Lib.ReduceAll

@[expose] public section

set_option maxRecDepth 16384

noncomputable section

namespace Cert.Pred

open Idealize.ShloMosaic Idealize.ShloMosaic.Pointwise
open Cert.Pre_finite_untied Cert.Pre_finite_untied.Gen
open Cert.ReferenceIdeal.Read

/-- One bit: whether every entry of an array is below plus infinity in absolute value. -/
def allFinite {s : Shape} {axes : List (Fin s.rank)} (b : S_.BroadcastsInDim s (![] : Fin 0 → Fin s.rank)) (h : s.ReducesTo axes S_)
    (a : FVec Ideal s .f32) : IVec S_ 1 :=
  Host.reduce IntOp.andi (cmpf .olt (Host.absf a) (broadcastInDim s ![] b (constant (F := Ideal) S_ .f32 0x7F800000#32))) (constantI S_ 1 1#1) h h_S_

theorem pinf : Ideal.ofBits .f32 0x7F800000#32 = ⊤ := by simp [Ideal.ofBits, Ideal.ieee]

/-- A number whose absolute value is below plus infinity is real. -/
theorem real_of_abs (a : EReal) (h : max a (-a) < ⊤) : a = ((a.toReal : ℝ) : EReal) := by
  have h1 : a ≠ ⊤ := fun e => by simp [e] at h
  have h2 : a ≠ ⊥ := fun e => by simp [e] at h
  exact (EReal.coe_toReal h1 h2).symm

theorem real_of_allFinite {s : Shape} {axes : List (Fin s.rank)} (b : S_.BroadcastsInDim s (![] : Fin 0 → Fin s.rank)) (h : s.ReducesTo axes S_)
    (a : FVec Ideal s .f32) (e : allFinite b h a (fun i => i.elim0) = 1#1) (i : s.Idx) : a i = (((a i).toReal : ℝ) : EReal) := by
  haveI : Subsingleton S_.Idx := ⟨fun a b => funext fun i => i.elim0⟩
  have e1 := Host.reduce_andi_all _ _ h h_S_ _ e i
  have e2 : Ideal.cmp .olt (max (a i) (-(a i))) (Ideal.ofBits .f32 0x7F800000#32) = 1#1 := e1
  rw [pinf] at e2
  exact real_of_abs _ ((Ideal.cmp_olt_eq_one _ _).1 e2)

/-- The `j`-th greatest probabilities that the precondition compares. -/
def pick (v : FVec Ideal S14336x3 .f32) (j : Fin 3) (h : S4x2x3.Slices ![0, 0, j.val] S4x2x1) : FVec Ideal S4x2 .f32 :=
  shapeCast S4x2 (extractStridedSlice S4x2x1 ![0, 0, j.val]
    (shapeCast S4x2x3 (extractStridedSlice S4x2x1x3 ![0, 5, 511, 0] (shapeCast S4x7x512x3 v shapeCasts_S14336x3_S4x7x512x3)
      slices_S4x7x512x3_S4x2x1x3_0_5_511_0) shapeCasts_S4x2x1x3_S4x2x3) h) shapeCasts_S4x2x1_S4x2

/-- The series of a batch entry whose last token the precondition reads. -/
abbrev which (b : Fin 4) (q : Fin 2) : Fin 28 := ⟨7 * b.val + 5 + q.val, by omega⟩

theorem pick_at (v : FVec Ideal S14336x3 .f32) (j : Fin 3) (h : S4x2x3.Slices ![0, 0, j.val] S4x2x1) (b : Fin 4) (q : Fin 2) :
    pick v j h (ix2 b q) = v (ix2 (Ref.row (which b q)) j) := by
  pointwise [pick]
  exact congrArg (fun r => v (ix2 r j)) (Fin.ext (by dsimp only; omega))

variable (a0 : FVec Ideal S4x512x7 .f32) (a1 : FVec Ideal S4x512x4 .f32) (a2 : FVec Ideal S4x144x7 .f32) (a3 : FVec Ideal S4x144x4 .f32)
  (a4 : FVec Ideal S1x128 .f32) (a5 a6 a7 a8 : FVec Ideal S128x128 .f32) (a9 : FVec Ideal S128x8 .f32)
  (a10 : FVec Ideal S8x128x256 .f32) (a11 : FVec Ideal S8x256x128 .f32) (a12 : FVec Ideal S128x96 .f32)

/-- The three greatest probabilities of every token. -/
def top3 : FVec Ideal S14336x3 .f32 :=
  (Host.topK S14336x3 1 (FloatOps.cmpfTotal (F := Ideal) (φ := .f32) .gt) (val_main_v57 (F := Ideal) a0 a4 a5 a6 a7 a8 a9)
    sliceFits_S14336x8_S14336x3).1

theorem fn_eq : Cert.Pre_finite_untied.fn (F := Ideal) a0 a1 a2 a3 a4 a5 a6 a7 a8 a9 a10 a11 a12
    = andi (broadcastInDim S4x2 ![] bcast_S_S4x2
        (andi (andi (andi (andi (andi (allFinite bcast_S_S4x512x7 reducesTo_S4x512x7_S_d0_1_2 a0) (allFinite bcast_S_S1x128 reducesTo_S1x128_S_d0_1 a4))
          (allFinite bcast_S_S128x128 reducesTo_S128x128_S_d0_1 a5)) (allFinite bcast_S_S128x128 reducesTo_S128x128_S_d0_1 a6))
          (allFinite bcast_S_S128x128 reducesTo_S128x128_S_d0_1 a7)) (allFinite bcast_S_S128x128 reducesTo_S128x128_S_d0_1 a8)))
        (andi (cmpf .ogt (pick (top3 a0 a4 a5 a6 a7 a8 a9) 0 slices_S4x2x3_S4x2x1_0_0_0) (pick (top3 a0 a4 a5 a6 a7 a8 a9) 1 slices_S4x2x3_S4x2x1_0_0_1))
          (cmpf .ogt (pick (top3 a0 a4 a5 a6 a7 a8 a9) 1 slices_S4x2x3_S4x2x1_0_0_1) (pick (top3 a0 a4 a5 a6 a7 a8 a9) 2 slices_S4x2x3_S4x2x1_0_0_2))) := by
  rfl

theorem top3_at (n : Fin 28) (j : Fin 3) :
    top3 a0 a4 a5 a6 a7 a8 a9 (ix2 (Ref.row n) j)
      = Ref.prob a0 a4 a5 a6 a7 a8 a9 n (Top.order (Ref.prob a0 a4 a5 a6 a7 a8 a9 n) ⟨j.val, by omega⟩) := by
  unfold top3
  refine (Top.topK_value _ _ (Ref.row n) j (by omega)).trans ?_
  simp only [Ref.v57_at]

/-- The facts that the precondition gives. -/
structure Holds : Prop where
  x : ∀ i, a0 i = (((a0 i).toReal : ℝ) : EReal)
  w : ∀ i, a4 i = (((a4 i).toReal : ℝ) : EReal)
  q : ∀ i, a5 i = (((a5 i).toReal : ℝ) : EReal)
  k : ∀ i, a6 i = (((a6 i).toReal : ℝ) : EReal)
  v : ∀ i, a7 i = (((a7 i).toReal : ℝ) : EReal)
  o : ∀ i, a8 i = (((a8 i).toReal : ℝ) : EReal)
  first : ∀ b q, Ref.prob a0 a4 a5 a6 a7 a8 a9 (which b q) (Top.order (Ref.prob a0 a4 a5 a6 a7 a8 a9 (which b q)) 1)
    < Ref.prob a0 a4 a5 a6 a7 a8 a9 (which b q) (Top.order (Ref.prob a0 a4 a5 a6 a7 a8 a9 (which b q)) 0)
  second : ∀ b q, Ref.prob a0 a4 a5 a6 a7 a8 a9 (which b q) (Top.order (Ref.prob a0 a4 a5 a6 a7 a8 a9 (which b q)) 2)
    < Ref.prob a0 a4 a5 a6 a7 a8 a9 (which b q) (Top.order (Ref.prob a0 a4 a5 a6 a7 a8 a9 (which b q)) 1)

theorem holds (h : Cert.Pre_finite_untied.fn (F := Ideal) a0 a1 a2 a3 a4 a5 a6 a7 a8 a9 a10 a11 a12 = fun _ => 1#1) :
    Holds a0 a4 a5 a6 a7 a8 a9 := by
  rw [fn_eq] at h
  have at1 : ∀ b q, _ := fun (b : Fin 4) (q : Fin 2) => IntOp.andi_eq_one.1 (congrFun h (ix2 b q))
  have h0 := (at1 0 0).1
  have e : ∀ f : IVec S_ 1, broadcastInDim S4x2 ![] bcast_S_S4x2 f (ix2 0 0) = 1#1 → f (fun i => i.elim0) = 1#1 := by
    intro f hf
    refine Eq.trans (congrArg f (funext fun i => i.elim0)) hf
  have h1 := IntOp.andi_eq_one.1 (e _ h0)
  have h2 := IntOp.andi_eq_one.1 h1.1
  have h3 := IntOp.andi_eq_one.1 h2.1
  have h4 := IntOp.andi_eq_one.1 h3.1
  have h5 := IntOp.andi_eq_one.1 h4.1
  refine ⟨real_of_allFinite _ _ _ h5.1, real_of_allFinite _ _ _ h5.2, real_of_allFinite _ _ _ h4.2, real_of_allFinite _ _ _ h3.2,
    real_of_allFinite _ _ _ h2.2, real_of_allFinite _ _ _ h1.2, fun b q => ?_, fun b q => ?_⟩
  · have g := (Ideal.cmp_ogt_eq_one _ _).1 (IntOp.andi_eq_one.1 (at1 b q).2).1
    rw [pick_at, pick_at, top3_at, top3_at] at g
    exact g
  · have g := (Ideal.cmp_ogt_eq_one _ _).1 (IntOp.andi_eq_one.1 (at1 b q).2).2
    rw [pick_at, pick_at, top3_at, top3_at] at g
    exact g

end Cert.Pred
-- ==== Proof.KerRun.lean ====
/-
  The kernel's run: what the region leaves in its output array, and what the host's reshape makes of it.
-/
module

public import proofs.«01_k».proof.Proof.KerOut
public import proofs.«01_k».proof.Proof.Gen.KernelIdeal.Frame
public import Idealize.ShloMosaic.Lib.Pipeline.Value
public import Idealize.ShloMosaic.Lib.WholeRead

@[expose] public section

set_option maxRecDepth 16384

noncomputable section

namespace Cert.Ker

open Idealize.ShloMosaic Cert.KernelIdeal Cert.KernelIdeal.Gen Idealize.ShloMosaic.TcCoe Idealize.SL.Sem

theorem hz : (![0, 0] : Fin 2 → Nat) = fun _ => 0 := by decide

/-- A load of a whole memref through the whole-shape rectangle reads its contents. -/
theorem load_whole {s : Shape} {sp : Space} {e : EltTy} {M : Memref sig .tc sp s e} (h : M.IsWhole) (X : s.Idx → Elt Ideal e)
    {off : Fin s.rank → Nat} (hz : off = fun _ => 0) (inb : ∀ a, off a + s.size a ≤ s.size a) :
    View.readAt (Elt Ideal) M.view (Rect.unit off s.size inb).toLoadRect (h.unread X) = X := by
  subst hz
  funext x
  rw [h.readAt_unread]
  exact congrArg X (funext fun a => Fin.ext (by show 0 + 1 * (x a).val = _; omega))

/-- A load of one expert's first weights after the copy of all reads that expert's. -/
theorem load_cut1 {κ : Kind} {sp : Space} (v : View sig κ sp S8x128x256 .f32) (X : S8x128x256.Idx → Elt Ideal .f32) (e : Fin 8)
    (inb : ∀ a, (![e.val, 0, 0] : Fin 3 → Nat) a + (![1, 128, 256] : Fin 3 → Nat) a ≤ S8x128x256.size a) :
    v.readCov [(⟨Rect.whole S8x128x256, X⟩ : View.Piece (Elt Ideal) S8x128x256 .f32)]
      (Rect.unit (s := S8x128x256) ![e.val, 0, 0] (![1, 128, 256] : Fin 3 → Nat) inb).toLoadRect = cut1 X e := by
  rw [View.readCov_eq_canon']
  funext j
  have h := View.canon_cons_emb (Val := Elt Ideal) (Rect.whole S8x128x256) X []
    ((Rect.unit (s := S8x128x256) ![e.val, 0, 0] (![1, 128, 256] : Fin 3 → Nat) inb).toLoadRect.idx j)
  rw [Rect.emb_whole_apply] at h
  refine h.trans (congrArg X (funext fun a => Fin.ext ?_))
  fin_cases a
  · show e.val + 1 * (j 0).val = e.val
    have : (j 0).val < 1 := (j 0).isLt
    omega
  · show 0 + 1 * (j 1).val = (j 1).val; omega
  · show 0 + 1 * (j 2).val = (j 2).val; omega

theorem load_cut2 {κ : Kind} {sp : Space} (v : View sig κ sp S8x256x128 .f32) (X : S8x256x128.Idx → Elt Ideal .f32) (e : Fin 8)
    (inb : ∀ a, (![e.val, 0, 0] : Fin 3 → Nat) a + (![1, 256, 128] : Fin 3 → Nat) a ≤ S8x256x128.size a) :
    v.readCov [(⟨Rect.whole S8x256x128, X⟩ : View.Piece (Elt Ideal) S8x256x128 .f32)]
      (Rect.unit (s := S8x256x128) ![e.val, 0, 0] (![1, 256, 128] : Fin 3 → Nat) inb).toLoadRect = cut2 X e := by
  rw [View.readCov_eq_canon']
  funext j
  have h := View.canon_cons_emb (Val := Elt Ideal) (Rect.whole S8x256x128) X []
    ((Rect.unit (s := S8x256x128) ![e.val, 0, 0] (![1, 256, 128] : Fin 3 → Nat) inb).toLoadRect.idx j)
  rw [Rect.emb_whole_apply] at h
  refine h.trans (congrArg X (funext fun a => Fin.ext ?_))
  fin_cases a
  · show e.val + 1 * (j 0).val = e.val
    have : (j 0).val < 1 := (j 0).isLt
    omega
  · show 0 + 1 * (j 1).val = (j 1).val; omega
  · show 0 + 1 * (j 2).val = (j 2).val; omega

/-- What the kernel writes, of its ten operands. -/
def block (x0 : FVec Ideal S28x512 .f32) (x1 : FVec Ideal S1x128 .f32) (x2 x3 x4 x5 : FVec Ideal S128x128 .f32)
    (x6 : FVec Ideal S128x8 .f32) (x7 : FVec Ideal S128x96 .f32) (w1 : FVec Ideal S8x128x256 .f32)
    (w2 : FVec Ideal S8x256x128 .f32) : FVec Ideal S4x672 .f32 :=
  fin (mean x0) (sdev x0) (vals (rows x0) (preds (hidden x0 x1 x2 x3 x4 x5) (comb x0 x1 x2 x3 x4 x5 x6)
    (k0_pay57 x1 (outvec x1 x4 x5) (last x0) (pexp x0 x1 x2 x3) (pexpx x0 x1 x2 x3) (cut1 w1 0)) w1 w2 x7))

/-- What the run of the body leaves in the output's staging buffer. -/
theorem out_eq (c : Dev nD) (arg0 : Memref sig .tc .vmem S28x512 .f32) (harg0 : arg0.IsWhole) (arg1 : Memref sig .tc .vmem S1x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x8 .f32) (harg6 : arg6.IsWhole) (arg9 : Memref sig .tc .vmem S128x96 .f32) (harg9 : arg9.IsWhole) (arg10 : Memref sig .tc .vmem S4x672 .f32) (harg10 : arg10.IsWhole) (arg11 : Memref sig .tc .vmem S8x128x256 .f32) (harg11 : arg11.IsWhole) (arg12 : Memref sig .tc .vmem S8x256x128 .f32) (harg12 : arg12.IsWhole)
    (x0 : Vec Ideal S28x512 .f32) (x1 : Vec Ideal S1x128 .f32) (x2 : Vec Ideal S128x128 .f32) (x3 : Vec Ideal S128x128 .f32) (x4 : Vec Ideal S128x128 .f32) (x5 : Vec Ideal S128x128 .f32) (x6 : Vec Ideal S128x8 .f32) (x7 : Vec Ideal S128x96 .f32) (fh0 : HbBuf0 (F := Ideal) c hbM0_0) (fh1 : HbBuf0 (F := Ideal) c hbM0_1) :
    out0_A_8 c arg0 harg0 arg1 harg1 arg2 harg2 arg3 harg3 arg4 harg4 arg5 harg5 arg6 harg6 arg9 harg9 arg10 harg10 arg11 harg11 arg12 harg12 x0 x1 x2 x3 x4 x5 x6 x7 fh0 fh1
      = block x0 x1 x2 x3 x4 x5 x6 x7 fh0 fh1 := by
  unfold out0_A_8
  dsimp only [kernelRun0_A]
  rw [View.read_writes_junk_eq_canon, View.canon_unit_zero hz]
  have d0 : kernelRun0_A.sl.dma0 c fh0 = fh0 := by unfold kernelRun0_A.sl.dma0; rfl
  have d1 : kernelRun0_A.sl.dma0_1 c fh1 = fh1 := by unfold kernelRun0_A.sl.dma0_1; rfl
  have g0 (inb : ∀ a, (![0, 0, 0] : Fin 3 → Nat) a + (![1, 128, 256] : Fin 3 → Nat) a ≤ S8x128x256.size a) :
      arg11.view.readCov [(⟨Rect.whole S8x128x256, fh0⟩ : View.Piece (Elt Ideal) S8x128x256 .f32)] (Rect.unit ![0, 0, 0] ![1, 128, 256] inb).toLoadRect = cut1 fh0 0 := load_cut1 arg11.view fh0 0 inb
  have k0 (inb : ∀ a, (![0, 0, 0] : Fin 3 → Nat) a + (![1, 256, 128] : Fin 3 → Nat) a ≤ S8x256x128.size a) :
      arg12.view.readCov [(⟨Rect.whole S8x256x128, fh1⟩ : View.Piece (Elt Ideal) S8x256x128 .f32)] (Rect.unit ![0, 0, 0] ![1, 256, 128] inb).toLoadRect = cut2 fh1 0 := load_cut2 arg12.view fh1 0 inb
  have g1 (inb : ∀ a, (![1, 0, 0] : Fin 3 → Nat) a + (![1, 128, 256] : Fin 3 → Nat) a ≤ S8x128x256.size a) :
      arg11.view.readCov [(⟨Rect.whole S8x128x256, fh0⟩ : View.Piece (Elt Ideal) S8x128x256 .f32)] (Rect.unit ![1, 0, 0] ![1, 128, 256] inb).toLoadRect = cut1 fh0 1 := load_cut1 arg11.view fh0 1 inb
  have k1 (inb : ∀ a, (![1, 0, 0] : Fin 3 → Nat) a + (![1, 256, 128] : Fin 3 → Nat) a ≤ S8x256x128.size a) :
      arg12.view.readCov [(⟨Rect.whole S8x256x128, fh1⟩ : View.Piece (Elt Ideal) S8x256x128 .f32)] (Rect.unit ![1, 0, 0] ![1, 256, 128] inb).toLoadRect = cut2 fh1 1 := load_cut2 arg12.view fh1 1 inb
  have g2 (inb : ∀ a, (![2, 0, 0] : Fin 3 → Nat) a + (![1, 128, 256] : Fin 3 → Nat) a ≤ S8x128x256.size a) :
      arg11.view.readCov [(⟨Rect.whole S8x128x256, fh0⟩ : View.Piece (Elt Ideal) S8x128x256 .f32)] (Rect.unit ![2, 0, 0] ![1, 128, 256] inb).toLoadRect = cut1 fh0 2 := load_cut1 arg11.view fh0 2 inb
  have k2 (inb : ∀ a, (![2, 0, 0] : Fin 3 → Nat) a + (![1, 256, 128] : Fin 3 → Nat) a ≤ S8x256x128.size a) :
      arg12.view.readCov [(⟨Rect.whole S8x256x128, fh1⟩ : View.Piece (Elt Ideal) S8x256x128 .f32)] (Rect.unit ![2, 0, 0] ![1, 256, 128] inb).toLoadRect = cut2 fh1 2 := load_cut2 arg12.view fh1 2 inb
  have g3 (inb : ∀ a, (![3, 0, 0] : Fin 3 → Nat) a + (![1, 128, 256] : Fin 3 → Nat) a ≤ S8x128x256.size a) :
      arg11.view.readCov [(⟨Rect.whole S8x128x256, fh0⟩ : View.Piece (Elt Ideal) S8x128x256 .f32)] (Rect.unit ![3, 0, 0] ![1, 128, 256] inb).toLoadRect = cut1 fh0 3 := load_cut1 arg11.view fh0 3 inb
  have k3 (inb : ∀ a, (![3, 0, 0] : Fin 3 → Nat) a + (![1, 256, 128] : Fin 3 → Nat) a ≤ S8x256x128.size a) :
      arg12.view.readCov [(⟨Rect.whole S8x256x128, fh1⟩ : View.Piece (Elt Ideal) S8x256x128 .f32)] (Rect.unit ![3, 0, 0] ![1, 256, 128] inb).toLoadRect = cut2 fh1 3 := load_cut2 arg12.view fh1 3 inb
  have g4 (inb : ∀ a, (![4, 0, 0] : Fin 3 → Nat) a + (![1, 128, 256] : Fin 3 → Nat) a ≤ S8x128x256.size a) :
      arg11.view.readCov [(⟨Rect.whole S8x128x256, fh0⟩ : View.Piece (Elt Ideal) S8x128x256 .f32)] (Rect.unit ![4, 0, 0] ![1, 128, 256] inb).toLoadRect = cut1 fh0 4 := load_cut1 arg11.view fh0 4 inb
  have k4 (inb : ∀ a, (![4, 0, 0] : Fin 3 → Nat) a + (![1, 256, 128] : Fin 3 → Nat) a ≤ S8x256x128.size a) :
      arg12.view.readCov [(⟨Rect.whole S8x256x128, fh1⟩ : View.Piece (Elt Ideal) S8x256x128 .f32)] (Rect.unit ![4, 0, 0] ![1, 256, 128] inb).toLoadRect = cut2 fh1 4 := load_cut2 arg12.view fh1 4 inb
  have g5 (inb : ∀ a, (![5, 0, 0] : Fin 3 → Nat) a + (![1, 128, 256] : Fin 3 → Nat) a ≤ S8x128x256.size a) :
      arg11.view.readCov [(⟨Rect.whole S8x128x256, fh0⟩ : View.Piece (Elt Ideal) S8x128x256 .f32)] (Rect.unit ![5, 0, 0] ![1, 128, 256] inb).toLoadRect = cut1 fh0 5 := load_cut1 arg11.view fh0 5 inb
  have k5 (inb : ∀ a, (![5, 0, 0] : Fin 3 → Nat) a + (![1, 256, 128] : Fin 3 → Nat) a ≤ S8x256x128.size a) :
      arg12.view.readCov [(⟨Rect.whole S8x256x128, fh1⟩ : View.Piece (Elt Ideal) S8x256x128 .f32)] (Rect.unit ![5, 0, 0] ![1, 256, 128] inb).toLoadRect = cut2 fh1 5 := load_cut2 arg12.view fh1 5 inb
  have g6 (inb : ∀ a, (![6, 0, 0] : Fin 3 → Nat) a + (![1, 128, 256] : Fin 3 → Nat) a ≤ S8x128x256.size a) :
      arg11.view.readCov [(⟨Rect.whole S8x128x256, fh0⟩ : View.Piece (Elt Ideal) S8x128x256 .f32)] (Rect.unit ![6, 0, 0] ![1, 128, 256] inb).toLoadRect = cut1 fh0 6 := load_cut1 arg11.view fh0 6 inb
  have k6 (inb : ∀ a, (![6, 0, 0] : Fin 3 → Nat) a + (![1, 256, 128] : Fin 3 → Nat) a ≤ S8x256x128.size a) :
      arg12.view.readCov [(⟨Rect.whole S8x256x128, fh1⟩ : View.Piece (Elt Ideal) S8x256x128 .f32)] (Rect.unit ![6, 0, 0] ![1, 256, 128] inb).toLoadRect = cut2 fh1 6 := load_cut2 arg12.view fh1 6 inb
  have g7 (inb : ∀ a, (![7, 0, 0] : Fin 3 → Nat) a + (![1, 128, 256] : Fin 3 → Nat) a ≤ S8x128x256.size a) :
      arg11.view.readCov [(⟨Rect.whole S8x128x256, fh0⟩ : View.Piece (Elt Ideal) S8x128x256 .f32)] (Rect.unit ![7, 0, 0] ![1, 128, 256] inb).toLoadRect = cut1 fh0 7 := load_cut1 arg11.view fh0 7 inb
  have k7 (inb : ∀ a, (![7, 0, 0] : Fin 3 → Nat) a + (![1, 256, 128] : Fin 3 → Nat) a ≤ S8x256x128.size a) :
      arg12.view.readCov [(⟨Rect.whole S8x256x128, fh1⟩ : View.Piece (Elt Ideal) S8x256x128 .f32)] (Rect.unit ![7, 0, 0] ![1, 256, 128] inb).toLoadRect = cut2 fh1 7 := load_cut2 arg12.view fh1 7 inb
  have l0 := load_whole harg0 x0 hz
  have l1 := load_whole harg1 x1 hz
  have l2 := load_whole harg2 x2 hz
  have l3 := load_whole harg3 x3 hz
  have l4 := load_whole harg4 x4 hz
  have l5 := load_whole harg5 x5 hz
  have l6 := load_whole harg6 x6 hz
  have l7 := load_whole harg9 x7 hz
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40,
    kernelRun0_A.sl.v145, kernelRun0_A.sl.v146, kernelRun0_A.sl.v187, kernelRun0_A.sl.v188, kernelRun0_A.sl.v238, kernelRun0_A.sl.v239, kernelRun0_A.sl.v275, kernelRun0_A.sl.v590, kernelRun0_A.sl.v591,
    kernelRun0_A.sl.v475, kernelRun0_A.sl.v489, kernelRun0_A.sl.v503, kernelRun0_A.sl.v517, kernelRun0_A.sl.v531, kernelRun0_A.sl.v545, kernelRun0_A.sl.v559, kernelRun0_A.sl.v573, kernelRun0_A.sl.v480, kernelRun0_A.sl.v494, kernelRun0_A.sl.v508, kernelRun0_A.sl.v522, kernelRun0_A.sl.v536, kernelRun0_A.sl.v550, kernelRun0_A.sl.v564, kernelRun0_A.sl.v578, d0, d1, l0, l1, l2, l3, l4, l5, l6, l7,
    g0, k0, g1, k1, g2, k2, g3, k3, g4, k4, g5, k5, g6, k6, g7, k7]
  rfl

variable (m : (ℓ : Loc nD τ sig) → Buf (Elt Ideal) ℓ) (ρ : Dev nD → PrngReg)

/-- The array the kernel leaves on core `c`. -/
def left (c : Dev nD) : FVec Ideal S4x672 .f32 :=
  block (V m c main_v0) (V m c main_arg4) (V m c main_arg5) (V m c main_arg6) (V m c main_arg7) (V m c main_arg8)
    (V m c main_arg9) (V m c main_arg12) (V m c main_arg10) (V m c main_arg11)

/-! The one grid point stages every operand whole. -/

theorem iblk_0 (c : Dev nD) (t : Fin cfg0.N) : iblk m c 0 t = V m c main_v0 := by
  rcases fin_N0 t with rfl
  funext y
  refine congrArg (V m c main_v0) (funext fun a => Fin.ext ?_)
  fin_cases a
  · show 0 + 1 * (y 0).val = (y 0).val; omega
  · show 0 + 1 * (y 1).val = (y 1).val; omega

theorem iblk_1 (c : Dev nD) (t : Fin cfg0.N) : iblk m c 1 t = V m c main_arg4 := by
  rcases fin_N0 t with rfl
  funext y
  refine congrArg (V m c main_arg4) (funext fun a => Fin.ext ?_)
  fin_cases a
  · show 0 + 1 * (y 0).val = (y 0).val; omega
  · show 0 + 1 * (y 1).val = (y 1).val; omega

theorem iblk_2 (c : Dev nD) (t : Fin cfg0.N) : iblk m c 2 t = V m c main_arg5 := by
  rcases fin_N0 t with rfl
  funext y
  refine congrArg (V m c main_arg5) (funext fun a => Fin.ext ?_)
  fin_cases a
  · show 0 + 1 * (y 0).val = (y 0).val; omega
  · show 0 + 1 * (y 1).val = (y 1).val; omega

theorem iblk_3 (c : Dev nD) (t : Fin cfg0.N) : iblk m c 3 t = V m c main_arg6 := by
  rcases fin_N0 t with rfl
  funext y
  refine congrArg (V m c main_arg6) (funext fun a => Fin.ext ?_)
  fin_cases a
  · show 0 + 1 * (y 0).val = (y 0).val; omega
  · show 0 + 1 * (y 1).val = (y 1).val; omega

theorem iblk_4 (c : Dev nD) (t : Fin cfg0.N) : iblk m c 4 t = V m c main_arg7 := by
  rcases fin_N0 t with rfl
  funext y
  refine congrArg (V m c main_arg7) (funext fun a => Fin.ext ?_)
  fin_cases a
  · show 0 + 1 * (y 0).val = (y 0).val; omega
  · show 0 + 1 * (y 1).val = (y 1).val; omega

theorem iblk_5 (c : Dev nD) (t : Fin cfg0.N) : iblk m c 5 t = V m c main_arg8 := by
  rcases fin_N0 t with rfl
  funext y
  refine congrArg (V m c main_arg8) (funext fun a => Fin.ext ?_)
  fin_cases a
  · show 0 + 1 * (y 0).val = (y 0).val; omega
  · show 0 + 1 * (y 1).val = (y 1).val; omega

theorem iblk_6 (c : Dev nD) (t : Fin cfg0.N) : iblk m c 6 t = V m c main_arg9 := by
  rcases fin_N0 t with rfl
  funext y
  refine congrArg (V m c main_arg9) (funext fun a => Fin.ext ?_)
  fin_cases a
  · show 0 + 1 * (y 0).val = (y 0).val; omega
  · show 0 + 1 * (y 1).val = (y 1).val; omega

theorem iblk_7 (c : Dev nD) (t : Fin cfg0.N) : iblk m c 7 t = V m c main_arg12 := by
  rcases fin_N0 t with rfl
  funext y
  refine congrArg (V m c main_arg12) (funext fun a => Fin.ext ?_)
  fin_cases a
  · show 0 + 1 * (y 0).val = (y 0).val; omega
  · show 0 + 1 * (y 1).val = (y 1).val; omega

/-- What the one grid point writes back. -/
theorem flushed_eq (c : Dev nD) (t : Fin cfg0.N) : (dats m 0 c).flushed 8 t = ((cfg0.win 8).blk t).view.read (Elt Ideal) (left m c) := by
  show (cfg0.win 8).cut (grid0.coords t) ((dats m 0 c).after 8 t) = _
  rw [after0_8]
  unfold outsAt0
  rw [out_eq]
  rw [iblk_0, iblk_1, iblk_2, iblk_3, iblk_4, iblk_5, iblk_6, iblk_7]
  show (cfg0.win 8).cut (grid0.coords t) (left m c) = _
  generalize left m c = X
  rcases fin_N0 t with rfl
  funext y
  refine congrArg X (funext fun a => Fin.ext ?_)
  fin_cases a
  · show (y 0).val = 0 + 1 * (y 0).val; omega
  · show (y 1).val = 0 + 1 * (y 1).val; omega

/-- The one block is the whole array. -/
theorem cover : ∀ i : S4x672.Idx, ∃ t : Fin cfg0.N, (cfg0.win 8).flush t = true ∧ i ∈ ((cfg0.win 8).blk t).view.set := by
  intro i
  refine ⟨t0_0, flush0_8 t0_0, ?_⟩
  show i ∈ ((View.whole main_v1).slice (win0_8.rect t0_0)).set
  rw [View.set_slice_whole, Rect.mem_set_unit]
  have h0 : (i 0 : Nat) < 4 := (i 0).isLt
  have h1 : (i 1 : Nat) < 672 := (i 1).isLt
  intro a
  fin_cases a
  · show 0 ≤ (i 0 : Nat) ∧ (i 0 : Nat) < 0 + 4; omega
  · show 0 ≤ (i 1 : Nat) ∧ (i 1 : Nat) < 0 + 672; omega

/-- The kernel's output array after the run. -/
theorem final (c : Dev nD) : (dats m 0 c).arrAt 8 cfg0.N = left m c :=
  (dats m 0 c).arrAt_eq_of_cover 8 (left m c) (fun t _ => flushed_eq m c t) cover

/-- The first host reshape gives the kernel its rows. -/
theorem V_rows (c : Dev nD) :
    V m c main_v0 = shapeCast (s := S4x512x7) S28x512 (m ((c : Thread nD τ).loc main_arg0)) shapeCasts_S4x512x7_S28x512 := by
  show StableHlo.after [_] _ _ = _
  rw [StableHlo.after_cons, StableHlo.after_nil]
  exact StableHlo.reshape_result' ..

/-- The last host reshape gives the result. -/
theorem tail_eq (c : Dev nD) : Pipeline.afterTail₀ cfgs (dats m) 0 (V0 m) [hostOps1] c main_v2
    = shapeCast (s := S4x672) S4x96x7 (left m c) shapeCasts_S4x672_S4x96x7 := by
  unfold Pipeline.afterTail₀
  show StableHlo.after _ _ _ = _
  after_results
  show StableHlo.after [_] _ _ = _
  rw [StableHlo.after_cons, StableHlo.after_nil, StableHlo.reshape_result']
  have h : Pipeline.withArrays (cfgs 0).spec c (V0 m c) (fun w => (dats m 0 c).arrAt w (cfgs 0).N) (Proc.devRef .tc main_v1) = left m c :=
    (Pipeline.withArrays_arr spec0 (by decide) c (V0 m c) _ 8).trans (final m c)
  rw [h]
  rfl

/-- The kernel's run: its result, and the arguments kept. -/
theorem run : θ_run defs (onTc (τ := τ) (main (F := Ideal))) ⟨m, fun _ => 0, ρ⟩ (fun r => ∀ c : Dev nD,
      r.2.mem ((c.tc : Thread nD τ).loc main_v2) = shapeCast (s := S4x672) S4x96x7 (left m c) shapeCasts_S4x672_S4x96x7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h.1 c).2 main_v2 (Pipeline.mem_restRefs_of main_v2 (by decide) (by decide))).trans (tail_eq m c),
      h.2 c⟩) (θ_run_and (run_main m ρ) (unchanged m ρ))

end Cert.Ker
-- ==== Proof.Value.lean ====
/-
  The kernel's result is the reference's, where the precondition's facts hold.
-/
module

public import proofs.«01_k».proof.Proof.SameHidden
public import proofs.«01_k».proof.Proof.Predicate
public import proofs.«01_k».proof.Proof.KerRun

@[expose] public section

set_option maxRecDepth 16384

noncomputable section

namespace Cert.Same

open Idealize.ShloMosaic Idealize.ShloMosaic.Pointwise
open Cert.ReferenceIdeal Cert.ReferenceIdeal.Read

/-- The picked tokens' entries into the first expert. -/
theorem gate_at (x0 : FVec Ideal Cert.KernelIdeal.S28x512 .f32) (w : FVec Ideal S1x128 .f32) (wq wk wv wo : FVec Ideal S128x128 .f32)
    (w1 : FVec Ideal S8x128x256 .f32) (r : Fin 8) (f : Fin 256) :
    Cert.KernelIdeal.Gen.k0_pay57 w (Ker.outvec w wv wo) (Ker.last x0) (Ker.pexp x0 w wq wk) (Ker.pexpx x0 w wq wk) (Ker.cut1 w1 0) (ix2 r f)
      = ∑ i : Fin 128, Ker.hidden x0 w wq wk wv wo (ix2 r i) * w1 (ix3 0 i f) := by
  pointwise [Cert.KernelIdeal.Gen.k0_pay57, Ker.hidden, Ker.cut1]

section
variable (x : FVec Ideal S4x512x7 .f32) (w : FVec Ideal S1x128 .f32) (wq wk wv wo : FVec Ideal S128x128 .f32)
  (wr : FVec Ideal S128x8 .f32) (w1 : FVec Ideal S8x128x256 .f32) (w2 : FVec Ideal S8x256x128 .f32) (wout : FVec Ideal S128x96 .f32)

/-- The kernel's forecasts. -/
abbrev kpreds : FVec Ideal Cert.KernelIdeal.S8x96 .f32 :=
  Ker.preds (Ker.hidden (raw x) w wq wk wv wo) (Ker.comb (raw x) w wq wk wv wo wr)
    (Cert.KernelIdeal.Gen.k0_pay57 w (Ker.outvec w wv wo) (Ker.last (raw x)) (Ker.pexp (raw x) w wq wk) (Ker.pexpx (raw x) w wq wk) (Ker.cut1 w1 0))
    w1 w2 wout

variable (h : Pred.Holds x w wq wk wv wo wr)
include h

theorem rows_eq (r : Fin 8) (k : Fin 512) : Ker.rows (raw x) (ix2 r k) = Ref.ser x (Ker.ser r) k := by
  rw [ker_rows x _ h.x, ref_ser x _ h.x]

theorem hidden_eq (r : Fin 8) : (fun d => Ker.hidden (raw x) w wq wk wv wo (ix2 r d)) = Ref.hidden (Ref.ser x (Ker.ser r)) w wq wk wv wo := by
  funext d
  rw [ker_hidden w wq wk wv wo _ _ _ _ _ h.w h.q h.k h.v h.o (raw x) r _ (ker_rows x _ h.x r),
    ref_hidden w wq wk wv wo _ _ _ _ _ h.w h.q h.k h.v h.o _ _ (ref_ser x _ h.x (Ker.ser r))]

theorem comb_eq (r : Fin 8) : (fun e => Ker.comb (raw x) w wq wk wv wo wr (ix2 r e)) = Ref.wts x w wq wk wv wo wr (Ker.ser r) := by
  funext e
  rw [Ker.comb_at, hidden_eq x w wq wk wv wo wr h]
  exact congrFun (softmax_weights (Ref.logits wr (Ref.hidden (Ref.ser x (Ker.ser r)) w wq wk wv wo))
    (h.first ⟨r.val / 2, by omega⟩ ⟨r.val % 2, by omega⟩) (h.second ⟨r.val / 2, by omega⟩ ⟨r.val % 2, by omega⟩)) e

theorem fore_eq (r : Fin 8) (t : Fin 96) : kpreds x w wq wk wv wo wr w1 w2 wout (ix2 r t) = Ref.fore x w wq wk wv wo wr w1 w2 wout (Ker.ser r) t := by
  rw [kpreds, Ker.preds_at _ _ _ _ _ _ (gate_at (raw x) w wq wk wv wo w1), hidden_eq x w wq wk wv wo wr h, comb_eq x w wq wk wv wo wr h]
  rfl

theorem valAt_eq (b : Fin 4) (j : Fin 672) :
    Ker.valAt (Ker.rows (raw x)) (kpreds x w wq wk wv wo wr w1 w2 wout) b j = Ref.outAt x w wq wk wv wo wr w1 w2 wout b j := by
  have e0 : Ker.ser ⟨2 * b.val, by omega⟩ = ⟨7 * b.val + 5, by omega⟩ := Fin.ext (by dsimp only; omega)
  have e1 : Ker.ser ⟨2 * b.val + 1, by omega⟩ = ⟨7 * b.val + 6, by omega⟩ := Fin.ext (by dsimp only; omega)
  unfold Ker.valAt Ref.outAt
  simp only [fore_eq x w wq wk wv wo wr w1 w2 wout h, rows_eq x w wq wk wv wo wr h, e0, e1]

/-- The kernel's result, read as the reference's shape, is the reference's result. -/
theorem value :
    shapeCast (s := Cert.KernelIdeal.S4x672) Cert.KernelIdeal.S4x96x7
        (Ker.block (raw x) w wq wk wv wo wr wout w1 w2) Cert.KernelIdeal.Gen.shapeCasts_S4x672_S4x96x7
      = val_main_v184 (F := Ideal) x w wq wk wv wo wr w1 w2 wout := by
  funext i
  obtain ⟨b, t, c, rfl⟩ : ∃ (b : Fin 4) (t : Fin 96) (c : Fin 7), i = ix3 b t c := ⟨i 0, i 1, i 2, eq_ix3 i⟩
  have e : shapeCast (s := Cert.KernelIdeal.S4x672) Cert.KernelIdeal.S4x96x7
        (Ker.block (raw x) w wq wk wv wo wr wout w1 w2) Cert.KernelIdeal.Gen.shapeCasts_S4x672_S4x96x7 (ix3 b t c)
      = Ker.block (raw x) w wq wk wv wo wr wout w1 w2 (ix2 b (Ref.flat t c)) := by
    generalize Ker.block (raw x) w wq wk wv wo wr wout w1 w2 = f
    pointwise
    exact congrArg (fun j => f (ix2 b j)) (Fin.ext (by dsimp only; omega))
  have hc : (⟨(Ref.flat t c).val % 7, Nat.mod_lt _ (by decide)⟩ : Fin 7) = c := Fin.ext (by dsimp only; omega)
  rw [e, Ref.v184_at, Ker.block, Ker.fin_at, Ker.vals_at, valAt_eq x w wq wk wv wo wr w1 w2 wout h, hc, ker_sdev x _ h.x, ker_mean x _ h.x,
    ref_sdev x _ h.x, ref_mean x _ h.x]
end

end Cert.Same
-- ==== Proof.lean ====
/- The claims of this directory, assembled: each program's frame, the kernel's idealization and the
   agreement of the kernel with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_untied
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel ends on every schedule with its arguments kept. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

theorem frame_pi_pre : Cert.quiescent_KernelIdeal_pre_finite_untied := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2,
      sem_eq_zero_of_no_sems (by decide) r.2⟩) (Cert.ReferenceIdeal.Value.run (F := Ideal) m ρ)

theorem frame_ri_pre : Cert.quiescent_ReferenceIdeal_pre_finite_untied := fun m ρ _ => frame_ri m ρ trivial

/-- The array that the kernel leaves is the reference's result of the same arguments. -/
theorem left_eq (m : (ℓ : Loc Cert.KernelIdeal.nD Cert.KernelIdeal.τ Cert.KernelIdeal.sig) → Buf (Elt Ideal) ℓ)
    (h : Cert.Pre_KernelIdeal_finite_untied m) (c : Dev Cert.KernelIdeal.nD) :
    shapeCast (s := Cert.KernelIdeal.S4x672) Cert.KernelIdeal.S4x96x7 (Cert.Ker.left m c) Cert.KernelIdeal.Gen.shapeCasts_S4x672_S4x96x7
      = Cert.ReferenceIdeal.Read.val_main_v184 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12)) := by
  have e := Cert.Same.value _ _ _ _ _ _ _
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (Cert.Pred.holds _ _ _ _ _ _ _ _ _ _ _ _ _ (h c))
  rw [← e, Cert.Ker.left, Cert.Ker.V_rows, Cert.KernelIdeal.Gen.V_main_arg4, Cert.KernelIdeal.Gen.V_main_arg5,
    Cert.KernelIdeal.Gen.V_main_arg6, Cert.KernelIdeal.Gen.V_main_arg7, Cert.KernelIdeal.Gen.V_main_arg8, Cert.KernelIdeal.Gen.V_main_arg9,
    Cert.KernelIdeal.Gen.V_main_arg10, Cert.KernelIdeal.Gen.V_main_arg11, Cert.KernelIdeal.Gen.V_main_arg12]
  rfl

/-- From the same arguments, where the precondition holds, the kernel's result and the reference's are the same array. -/
theorem algebraic : Cert.algebraic_KernelIdeal_ReferenceIdeal_pre_finite_untied := by
  intro m g m' g' hpre hargs
  refine ⟨fun c => shapeCast (s := Cert.KernelIdeal.S4x672) Cert.KernelIdeal.S4x96x7 (Cert.Ker.left m c)
    Cert.KernelIdeal.Gen.shapeCasts_S4x672_S4x96x7, Cert.Ker.run m g, ?_⟩
  refine (θ_run Cert.ReferenceIdeal.defs _ _).mono (fun r h c => ⟨?_, (h c).2⟩)
    (Cert.ReferenceIdeal.Value.run (F := Ideal) m' g')
  obtain ⟨h0, -, -, -, h4, h5, h6, h7, h8, h9, h10, h11, h12⟩ := hargs c
  have e : r.2.mem ((c.tc : Thread Cert.ReferenceIdeal.nD Cert.ReferenceIdeal.τ).loc Cert.ReferenceIdeal.main_v184)
      = Cert.ReferenceIdeal.Read.val_main_v184 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) :=
    (h c).1.trans (Cert.ReferenceIdeal.Read.val_main_v184_eq (F := Ideal) (StableHlo.launchContents m' c))
  rw [h0, h4, h5, h6, h7, h8, h9, h10, h11, h12] at e
  exact e.trans (left_eq m hpre c).symm

/-- The one constant that the idealized kernel names is 1/√128. -/
theorem preserves : Cert.preserves_Kernel_KernelIdeal :=
  IdealRules.named_const.statement Cert.KernelIdeal.κ "inv_sqrt_d" .f32 0x3DB504F3#32 (((Real.sqrt 128)⁻¹ : ℝ) : EReal) rfl

theorem claim : Cert.Claim := ⟨Cert.Kernel.Gen.facts, Cert.KernelIdeal.Gen.facts, Cert.ReferenceIdeal.Gen.facts, Cert.Pre_finite_untied.Gen.facts,
  frame_p, frame_pi, frame_pi_pre, frame_ri, frame_ri_pre, preserves, algebraic⟩

end Cert.Proof

end
